-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x6912 : Shape := ⟨3, ![6, 4096, 6912]⟩
abbrev S6912x2560 : Shape := ⟨2, ![6912, 2560]⟩
abbrev S108x5120 : Shape := ⟨2, ![108, 5120]⟩
abbrev S6912x64 : Shape := ⟨2, ![6912, 64]⟩
abbrev S64x5120 : Shape := ⟨2, ![64, 5120]⟩
abbrev S27x4x5120 : Shape := ⟨3, ![27, 4, 5120]⟩
abbrev S6912x5120 : Shape := ⟨2, ![6912, 5120]⟩
abbrev S256x2560 : Shape := ⟨2, ![256, 2560]⟩
abbrev S1x4x5120 : Shape := ⟨3, ![1, 4, 5120]⟩
abbrev S256x5120 : Shape := ⟨2, ![256, 5120]⟩
abbrev S8x128 : Shape := ⟨2, ![8, 128]⟩
abbrev S1x1x128 : Shape := ⟨3, ![1, 1, 128]⟩
abbrev S1x128 : Shape := ⟨2, ![1, 128]⟩
abbrev S32x128 : Shape := ⟨2, ![32, 128]⟩
abbrev S8x128x1 : Shape := ⟨3, ![8, 128, 1]⟩
abbrev S24576x6912 : Shape := ⟨2, ![24576, 6912]⟩
abbrev S24576x3456 : Shape := ⟨2, ![24576, 3456]⟩
abbrev S24576x108 : Shape := ⟨2, ![24576, 108]⟩
abbrev S24576x64 : Shape := ⟨2, ![24576, 64]⟩
abbrev S256x6912 : Shape := ⟨2, ![256, 6912]⟩
abbrev S256x3456 : Shape := ⟨2, ![256, 3456]⟩
abbrev S256x108 : Shape := ⟨2, ![256, 108]⟩
abbrev S256x64 : Shape := ⟨2, ![256, 64]⟩
abbrev S16x128 : Shape := ⟨2, ![16, 128]⟩
abbrev S16x128x1 : Shape := ⟨3, ![16, 128, 1]⟩
abbrev S16x108 : Shape := ⟨2, ![16, 108]⟩
abbrev S24576x5120 : Shape := ⟨2, ![24576, 5120]⟩
abbrev S1024x6912 : Shape := ⟨2, ![1024, 6912]⟩
abbrev S1024x64 : Shape := ⟨2, ![1024, 64]⟩
abbrev S6912x512 : Shape := ⟨2, ![6912, 512]⟩
abbrev S64x512 : Shape := ⟨2, ![64, 512]⟩
abbrev S1024x512 : Shape := ⟨2, ![1024, 512]⟩
abbrev S6x4096x5120 : Shape := ⟨3, ![6, 4096, 5120]⟩
abbrev S6x4096x3456 : Shape := ⟨3, ![6, 4096, 3456]⟩
abbrev S6x4096x108 : Shape := ⟨3, ![6, 4096, 108]⟩

abbrev nBuf : Space → Nat
  | .hbm => 16
  | .vmem => 27
  | .smem => 0
  | _ => 0

abbrev bufTy : (tb : Table) → Fin (tcTables nBuf tb) → BufTy
  | .hbm, ⟨0, _⟩ => ⟨S6x4096x6912, .bf16⟩
  | .hbm, ⟨1, _⟩ => ⟨S6912x2560, .i8⟩
  | .hbm, ⟨2, _⟩ => ⟨S108x5120, .f32⟩
  | .hbm, ⟨3, _⟩ => ⟨S6912x64, .bf16⟩
  | .hbm, ⟨4, _⟩ => ⟨S64x5120, .bf16⟩
  | .hbm, ⟨5, _⟩ => ⟨S27x4x5120, .f32⟩
  | .hbm, ⟨6, _⟩ => ⟨S6912x5120, .bf16⟩
  | .hbm, ⟨7, _⟩ => ⟨S24576x6912, .bf16⟩
  | .hbm, ⟨8, _⟩ => ⟨S24576x6912, .bf16⟩
  | .hbm, ⟨9, _⟩ => ⟨S24576x3456, .i8⟩
  | .hbm, ⟨10, _⟩ => ⟨S24576x108, .f32⟩
  | .hbm, ⟨11, _⟩ => ⟨S24576x64, .bf16⟩
  | .hbm, ⟨12, _⟩ => ⟨S24576x5120, .bf16⟩
  | .hbm, ⟨13, _⟩ => ⟨S6x4096x5120, .bf16⟩
  | .hbm, ⟨14, _⟩ => ⟨S6x4096x3456, .i8⟩
  | .hbm, ⟨15, _⟩ => ⟨S6x4096x108, .f32⟩
  | .local _ .vmem, ⟨0, _⟩ => ⟨S256x2560, .i8⟩
  | .local _ .vmem, ⟨1, _⟩ => ⟨S256x2560, .i8⟩
  | .local _ .vmem, ⟨2, _⟩ => ⟨S1x4x5120, .f32⟩
  | .local _ .vmem, ⟨3, _⟩ => ⟨S1x4x5120, .f32⟩
  | .local _ .vmem, ⟨4, _⟩ => ⟨S256x5120, .bf16⟩
  | .local _ .vmem, ⟨5, _⟩ => ⟨S256x5120, .bf16⟩
  | .local _ .vmem, ⟨6, _⟩ => ⟨S256x6912, .bf16⟩
  | .local _ .vmem, ⟨7, _⟩ => ⟨S256x6912, .bf16⟩
  | .local _ .vmem, ⟨8, _⟩ => ⟨S6912x64, .bf16⟩
  | .local _ .vmem, ⟨9, _⟩ => ⟨S256x6912, .bf16⟩
  | .local _ .vmem, ⟨10, _⟩ => ⟨S256x6912, .bf16⟩
  | .local _ .vmem, ⟨11, _⟩ => ⟨S256x3456, .i8⟩
  | .local _ .vmem, ⟨12, _⟩ => ⟨S256x3456, .i8⟩
  | .local _ .vmem, ⟨13, _⟩ => ⟨S256x108, .f32⟩
  | .local _ .vmem, ⟨14, _⟩ => ⟨S256x108, .f32⟩
  | .local _ .vmem, ⟨15, _⟩ => ⟨S256x64, .bf16⟩
  | .local _ .vmem, ⟨16, _⟩ => ⟨S256x64, .bf16⟩
  | .local _ .vmem, ⟨17, _⟩ => ⟨S1024x6912, .bf16⟩
  | .local _ .vmem, ⟨18, _⟩ => ⟨S1024x6912, .bf16⟩
  | .local _ .vmem, ⟨19, _⟩ => ⟨S1024x64, .bf16⟩
  | .local _ .vmem, ⟨20, _⟩ => ⟨S1024x64, .bf16⟩
  | .local _ .vmem, ⟨21, _⟩ => ⟨S6912x512, .bf16⟩
  | .local _ .vmem, ⟨22, _⟩ => ⟨S6912x512, .bf16⟩
  | .local _ .vmem, ⟨23, _⟩ => ⟨S64x512, .bf16⟩
  | .local _ .vmem, ⟨24, _⟩ => ⟨S64x512, .bf16⟩
  | .local _ .vmem, ⟨25, _⟩ => ⟨S1024x512, .bf16⟩
  | .local _ .vmem, ⟨26, _⟩ => ⟨S1024x512, .bf16⟩
  | _, _ => ⟨S6x4096x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![96], ![false]⟩

@[reducible] def k1_t1_loop : Scf.Loop 32 :=
  let c0_i32_4 : BitVec 32 := 0#32
  let c8_i32 : BitVec 32 := 8#32
  let v22 : BitVec 32 := Scalar.addi c0_i32_4 c8_i32
  let c1_i32_5 : BitVec 32 := 1#32
  ⟨c0_i32_4, v22, c1_i32_5⟩
def k1_mult1 (k1_t1 : Fin k1_t1_loop.trips) : BitVec 32 :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let c0_i32_12 : BitVec 32 := 0#32
  let v30 : BitVec 32 := Scalar.addi v29 c0_i32_12
  v30
def k1_off1 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v33 : Index := Scalar.indexCast v31
  let c0_13 : Index := 0#32
  ![v33.toNat, 0]
def k1_off2 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v38 : Index := Scalar.indexCast v31
  let c128 : Index := 128#32
  ![v38.toNat, 128]
def k1_off3 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v60 : Index := Scalar.indexCast v31
  let c256 : Index := 256#32
  ![v60.toNat, 256]
def k1_off4 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v65 : Index := Scalar.indexCast v31
  let c384 : Index := 384#32
  ![v65.toNat, 384]
def k1_off5 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v104 : Index := Scalar.indexCast v31
  let c512 : Index := 512#32
  ![v104.toNat, 512]
def k1_off6 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v109 : Index := Scalar.indexCast v31
  let c640 : Index := 640#32
  ![v109.toNat, 640]
def k1_off7 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v131 : Index := Scalar.indexCast v31
  let c768 : Index := 768#32
  ![v131.toNat, 768]
def k1_off8 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v136 : Index := Scalar.indexCast v31
  let c896 : Index := 896#32
  ![v136.toNat, 896]
def k1_off9 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v192 : Index := Scalar.indexCast v31
  let c1024 : Index := 1024#32
  ![v192.toNat, 1024]
def k1_off10 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v197 : Index := Scalar.indexCast v31
  let c1152 : Index := 1152#32
  ![v197.toNat, 1152]
def k1_off11 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v219 : Index := Scalar.indexCast v31
  let c1280 : Index := 1280#32
  ![v219.toNat, 1280]
def k1_off12 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v224 : Index := Scalar.indexCast v31
  let c1408 : Index := 1408#32
  ![v224.toNat, 1408]
def k1_off13 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v263 : Index := Scalar.indexCast v31
  let c1536 : Index := 1536#32
  ![v263.toNat, 1536]
def k1_off14 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v268 : Index := Scalar.indexCast v31
  let c1664 : Index := 1664#32
  ![v268.toNat, 1664]
def k1_off15 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v290 : Index := Scalar.indexCast v31
  let c1792 : Index := 1792#32
  ![v290.toNat, 1792]
def k1_off16 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v295 : Index := Scalar.indexCast v31
  let c1920 : Index := 1920#32
  ![v295.toNat, 1920]
def k1_off17 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v368 : Index := Scalar.indexCast v31
  let c2048 : Index := 2048#32
  ![v368.toNat, 2048]
def k1_off18 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v373 : Index := Scalar.indexCast v31
  let c2176 : Index := 2176#32
  ![v373.toNat, 2176]
def k1_off19 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v395 : Index := Scalar.indexCast v31
  let c2304 : Index := 2304#32
  ![v395.toNat, 2304]
def k1_off20 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v400 : Index := Scalar.indexCast v31
  let c2432 : Index := 2432#32
  ![v400.toNat, 2432]
def k1_off21 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v439 : Index := Scalar.indexCast v31
  let c2560 : Index := 2560#32
  ![v439.toNat, 2560]
def k1_off22 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v444 : Index := Scalar.indexCast v31
  let c2688 : Index := 2688#32
  ![v444.toNat, 2688]
def k1_off23 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v466 : Index := Scalar.indexCast v31
  let c2816 : Index := 2816#32
  ![v466.toNat, 2816]
def k1_off24 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v471 : Index := Scalar.indexCast v31
  let c2944 : Index := 2944#32
  ![v471.toNat, 2944]
def k1_off25 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v527 : Index := Scalar.indexCast v31
  let c3072 : Index := 3072#32
  ![v527.toNat, 3072]
def k1_off26 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v532 : Index := Scalar.indexCast v31
  let c3200 : Index := 3200#32
  ![v532.toNat, 3200]
def k1_off27 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v554 : Index := Scalar.indexCast v31
  let c3328 : Index := 3328#32
  ![v554.toNat, 3328]
def k1_off28 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v559 : Index := Scalar.indexCast v31
  let c3456 : Index := 3456#32
  ![v559.toNat, 3456]
def k1_off29 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v598 : Index := Scalar.indexCast v31
  let c3584 : Index := 3584#32
  ![v598.toNat, 3584]
def k1_off30 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v603 : Index := Scalar.indexCast v31
  let c3712 : Index := 3712#32
  ![v603.toNat, 3712]
def k1_off31 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v625 : Index := Scalar.indexCast v31
  let c3840 : Index := 3840#32
  ![v625.toNat, 3840]
def k1_off32 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v630 : Index := Scalar.indexCast v31
  let c3968 : Index := 3968#32
  ![v630.toNat, 3968]
def k1_off33 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v720 : Index := Scalar.indexCast v31
  let c4096 : Index := 4096#32
  ![v720.toNat, 4096]
def k1_off34 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v725 : Index := Scalar.indexCast v31
  let c4224 : Index := 4224#32
  ![v725.toNat, 4224]
def k1_off35 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v747 : Index := Scalar.indexCast v31
  let c4352 : Index := 4352#32
  ![v747.toNat, 4352]
def k1_off36 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v752 : Index := Scalar.indexCast v31
  let c4480 : Index := 4480#32
  ![v752.toNat, 4480]
def k1_off37 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v791 : Index := Scalar.indexCast v31
  let c4608 : Index := 4608#32
  ![v791.toNat, 4608]
def k1_off38 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v796 : Index := Scalar.indexCast v31
  let c4736 : Index := 4736#32
  ![v796.toNat, 4736]
def k1_off39 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v818 : Index := Scalar.indexCast v31
  let c4864 : Index := 4864#32
  ![v818.toNat, 4864]
def k1_off40 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v823 : Index := Scalar.indexCast v31
  let c4992 : Index := 4992#32
  ![v823.toNat, 4992]
def k1_off41 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v879 : Index := Scalar.indexCast v31
  let c5120 : Index := 5120#32
  ![v879.toNat, 5120]
def k1_off42 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v884 : Index := Scalar.indexCast v31
  let c5248 : Index := 5248#32
  ![v884.toNat, 5248]
def k1_off43 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v906 : Index := Scalar.indexCast v31
  let c5376 : Index := 5376#32
  ![v906.toNat, 5376]
def k1_off44 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v911 : Index := Scalar.indexCast v31
  let c5504 : Index := 5504#32
  ![v911.toNat, 5504]
def k1_off45 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v950 : Index := Scalar.indexCast v31
  let c5632 : Index := 5632#32
  ![v950.toNat, 5632]
def k1_off46 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v955 : Index := Scalar.indexCast v31
  let c5760 : Index := 5760#32
  ![v955.toNat, 5760]
def k1_off47 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v977 : Index := Scalar.indexCast v31
  let c5888 : Index := 5888#32
  ![v977.toNat, 5888]
def k1_off48 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v982 : Index := Scalar.indexCast v31
  let c6016 : Index := 6016#32
  ![v982.toNat, 6016]
def k1_off49 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v1055 : Index := Scalar.indexCast v31
  let c6144 : Index := 6144#32
  ![v1055.toNat, 6144]
def k1_off50 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v1060 : Index := Scalar.indexCast v31
  let c6272 : Index := 6272#32
  ![v1060.toNat, 6272]
def k1_off51 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v1082 : Index := Scalar.indexCast v31
  let c6400 : Index := 6400#32
  ![v1082.toNat, 6400]
def k1_off52 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v1087 : Index := Scalar.indexCast v31
  let c6528 : Index := 6528#32
  ![v1087.toNat, 6528]
def k1_off53 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v1126 : Index := Scalar.indexCast v31
  let c6656 : Index := 6656#32
  ![v1126.toNat, 6656]
def k1_off54 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v1131 : Index := Scalar.indexCast v31
  let c6784 : Index := 6784#32
  ![v1131.toNat, 6784]
def k1_off55 (k1_t1 : Fin k1_t1_loop.trips) (c0_i32_12 : BitVec 32) : Fin 2 → Nat :=
  let c0_i32_4 : BitVec 32 := 0#32
  let c1_i32_5 : BitVec 32 := 1#32
  let arg7 : BitVec 32 := Scf.iv c0_i32_4 c1_i32_5 k1_t1
  let c32_i32 : BitVec 32 := 32#32
  let v29 : BitVec 32 := Scalar.muli arg7 c32_i32
  let v30 : BitVec 32 := Scalar.addi v29 c0_i32_12
  let v31 : BitVec 32 := v30
  let v1241 : Index := Scalar.indexCast v31
  let c0_287 : Index := 0#32
  ![v1241.toNat, 0]
def k1_mult2 (k1_t1 : Fin k1_t1_loop.trips) : BitVec 32 :=
  let c0_i32_4 : BitVec 32 := 0#32
  let c1_i32_5 : BitVec 32 := 1#32
  let arg7 : BitVec 32 := Scf.iv c0_i32_4 c1_i32_5 k1_t1
  let c32_i32_1210 : BitVec 32 := 32#32
  let v4242 : BitVec 32 := Scalar.muli arg7 c32_i32_1210
  let c16_i32_1211 : BitVec 32 := 16#32
  let v4243 : BitVec 32 := Scalar.addi v4242 c16_i32_1211
  v4243
def k1_mult3 (k1_t1 : Fin k1_t1_loop.trips) : BitVec 32 :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  v8455
def k1_off56 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8461 : Index := Scalar.indexCast v8456
  let c0_2517 : Index := 0#32
  ![v8461.toNat, 0]
def k1_off57 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8467 : Index := Scalar.indexCast v8456
  let c128_2518 : Index := 128#32
  ![v8467.toNat, 128]
def k1_off58 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8473 : Index := Scalar.indexCast v8456
  let c256_2519 : Index := 256#32
  ![v8473.toNat, 256]
def k1_off59 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8479 : Index := Scalar.indexCast v8456
  let c384_2520 : Index := 384#32
  ![v8479.toNat, 384]
def k1_off60 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8485 : Index := Scalar.indexCast v8456
  let c512_2521 : Index := 512#32
  ![v8485.toNat, 512]
def k1_off61 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8491 : Index := Scalar.indexCast v8456
  let c640_2522 : Index := 640#32
  ![v8491.toNat, 640]
def k1_off62 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8497 : Index := Scalar.indexCast v8456
  let c768_2523 : Index := 768#32
  ![v8497.toNat, 768]
def k1_off63 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8503 : Index := Scalar.indexCast v8456
  let c896_2524 : Index := 896#32
  ![v8503.toNat, 896]
def k1_off64 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8509 : Index := Scalar.indexCast v8456
  let c1024_2525 : Index := 1024#32
  ![v8509.toNat, 1024]
def k1_off65 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8515 : Index := Scalar.indexCast v8456
  let c1152_2526 : Index := 1152#32
  ![v8515.toNat, 1152]
def k1_off66 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8521 : Index := Scalar.indexCast v8456
  let c1280_2527 : Index := 1280#32
  ![v8521.toNat, 1280]
def k1_off67 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8527 : Index := Scalar.indexCast v8456
  let c1408_2528 : Index := 1408#32
  ![v8527.toNat, 1408]
def k1_off68 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8533 : Index := Scalar.indexCast v8456
  let c1536_2529 : Index := 1536#32
  ![v8533.toNat, 1536]
def k1_off69 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8539 : Index := Scalar.indexCast v8456
  let c1664_2530 : Index := 1664#32
  ![v8539.toNat, 1664]
def k1_off70 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8545 : Index := Scalar.indexCast v8456
  let c1792_2531 : Index := 1792#32
  ![v8545.toNat, 1792]
def k1_off71 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8551 : Index := Scalar.indexCast v8456
  let c1920_2532 : Index := 1920#32
  ![v8551.toNat, 1920]
def k1_off72 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8557 : Index := Scalar.indexCast v8456
  let c2048_2533 : Index := 2048#32
  ![v8557.toNat, 2048]
def k1_off73 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8563 : Index := Scalar.indexCast v8456
  let c2176_2534 : Index := 2176#32
  ![v8563.toNat, 2176]
def k1_off74 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8569 : Index := Scalar.indexCast v8456
  let c2304_2535 : Index := 2304#32
  ![v8569.toNat, 2304]
def k1_off75 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8575 : Index := Scalar.indexCast v8456
  let c2432_2536 : Index := 2432#32
  ![v8575.toNat, 2432]
def k1_off76 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8581 : Index := Scalar.indexCast v8456
  let c2560_2537 : Index := 2560#32
  ![v8581.toNat, 2560]
def k1_off77 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8587 : Index := Scalar.indexCast v8456
  let c2688_2538 : Index := 2688#32
  ![v8587.toNat, 2688]
def k1_off78 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8593 : Index := Scalar.indexCast v8456
  let c2816_2539 : Index := 2816#32
  ![v8593.toNat, 2816]
def k1_off79 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8599 : Index := Scalar.indexCast v8456
  let c2944_2540 : Index := 2944#32
  ![v8599.toNat, 2944]
def k1_off80 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8605 : Index := Scalar.indexCast v8456
  let c3072_2541 : Index := 3072#32
  ![v8605.toNat, 3072]
def k1_off81 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8611 : Index := Scalar.indexCast v8456
  let c3200_2542 : Index := 3200#32
  ![v8611.toNat, 3200]
def k1_off82 (k1_t1 : Fin k1_t1_loop.trips) : Fin 2 → Nat :=
  let c0_i32_4 : BitVec 32 := 0#32
  let c1_i32_5 : BitVec 32 := 1#32
  let arg7 : BitVec 32 := Scf.iv c0_i32_4 c1_i32_5 k1_t1
  let c32_i32_2516 : BitVec 32 := 32#32
  let v8455 : BitVec 32 := Scalar.muli arg7 c32_i32_2516
  let v8456 : BitVec 32 := v8455
  let v8617 : Index := Scalar.indexCast v8456
  let c3328_2543 : Index := 3328#32
  ![v8617.toNat, 3328]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x6912 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6912x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x6912 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x3456 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x108 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![24, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x6912 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S6912x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S64x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S6x4096x6912 : Shape := ⟨3, ![6, 4096, 6912]⟩
abbrev S6912x2560 : Shape := ⟨2, ![6912, 2560]⟩
abbrev S108x5120 : Shape := ⟨2, ![108, 5120]⟩
abbrev S6912x64 : Shape := ⟨2, ![6912, 64]⟩
abbrev S64x5120 : Shape := ⟨2, ![64, 5120]⟩
abbrev S6x4096x108x64 : Shape := ⟨4, ![6, 4096, 108, 64]⟩
abbrev S_ : Shape := ⟨0, ![]⟩
abbrev S6x4096x108 : Shape := ⟨3, ![6, 4096, 108]⟩
abbrev S6x4096x108x1 : Shape := ⟨4, ![6, 4096, 108, 1]⟩
abbrev S6x4096x3456 : Shape := ⟨3, ![6, 4096, 3456]⟩
abbrev S6912x2560x1 : Shape := ⟨3, ![6912, 2560, 1]⟩
abbrev S6912x2560x2 : Shape := ⟨3, ![6912, 2560, 2]⟩
abbrev S6912x5120 : Shape := ⟨2, ![6912, 5120]⟩
abbrev S108x64x5120 : Shape := ⟨3, ![108, 64, 5120]⟩
abbrev S108x1x5120 : Shape := ⟨3, ![108, 1, 5120]⟩
abbrev S6x4096x5120 : Shape := ⟨3, ![6, 4096, 5120]⟩
abbrev S6x4096x64 : Shape := ⟨3, ![6, 4096, 64]⟩

abbrev nBuf : Space → Nat
  | .hbm => 80
  | .vmem => 0
  | .smem => 0
  | _ => 0

abbrev bufTy : (tb : Table) → Fin (tcTables nBuf tb) → BufTy
  | .hbm, ⟨0, _⟩ => ⟨S6x4096x6912, .bf16⟩
  | .hbm, ⟨1, _⟩ => ⟨S6912x2560, .i8⟩
  | .hbm, ⟨2, _⟩ => ⟨S108x5120, .f32⟩
  | .hbm, ⟨3, _⟩ => ⟨S6912x64, .bf16⟩
  | .hbm, ⟨4, _⟩ => ⟨S64x5120, .bf16⟩
  | .hbm, ⟨5, _⟩ => ⟨S6x4096x6912, .f32⟩
  | .hbm, ⟨6, _⟩ => ⟨S6x4096x108x64, .f32⟩
  | .hbm, ⟨7, _⟩ => ⟨S6x4096x108x64, .f32⟩
  | .hbm, ⟨8, _⟩ => ⟨S_, .f32⟩
  | .hbm, ⟨9, _⟩ => ⟨S6x4096x108, .f32⟩
  | .hbm, ⟨10, _⟩ => ⟨S_, .f32⟩
  | .hbm, ⟨11, _⟩ => ⟨S6x4096x108, .f32⟩
  | .hbm, ⟨12, _⟩ => ⟨S6x4096x108, .i1⟩
  | .hbm, ⟨13, _⟩ => ⟨S_, .f32⟩
  | .hbm, ⟨14, _⟩ => ⟨S6x4096x108, .f32⟩
  | .hbm, ⟨15, _⟩ => ⟨S6x4096x108, .f32⟩
  | .hbm, ⟨16, _⟩ => ⟨S_, .f32⟩
  | .hbm, ⟨17, _⟩ => ⟨S6x4096x108, .f32⟩
  | .hbm, ⟨18, _⟩ => ⟨S6x4096x108, .f32⟩
  | .hbm, ⟨19, _⟩ => ⟨S6x4096x108x1, .f32⟩
  | .hbm, ⟨20, _⟩ => ⟨S6x4096x108x64, .f32⟩
  | .hbm, ⟨21, _⟩ => ⟨S6x4096x108x64, .f32⟩
  | .hbm, ⟨22, _⟩ => ⟨S6x4096x108x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S6x4096x108x64, .f32⟩
  | .hbm, ⟨27, _⟩ => ⟨S6x4096x108x64, .f32⟩
  | .hbm, ⟨28, _⟩ => ⟨S_, .f32⟩
  | .hbm, ⟨29, _⟩ => ⟨S6x4096x108x64, .f32⟩
  | .hbm, ⟨30, _⟩ => ⟨S6x4096x108x64, .f32⟩
  | .hbm, ⟨31, _⟩ => ⟨S6x4096x108x64, .bf16⟩
  | .hbm, ⟨32, _⟩ => ⟨S6x4096x108, .bf16⟩
  | .hbm, ⟨33, _⟩ => ⟨S6x4096x108x1, .bf16⟩
  | .hbm, ⟨34, _⟩ => ⟨S6x4096x108x64, .bf16⟩
  | .hbm, ⟨35, _⟩ => ⟨S6x4096x108x64, .bf16⟩
  | .hbm, ⟨36, _⟩ => ⟨S6x4096x6912, .bf16⟩
  | .hbm, ⟨37, _⟩ => ⟨S6x4096x108x64, .i32⟩
  | .hbm, ⟨38, _⟩ => ⟨S6x4096x6912, .i32⟩
  | .hbm, ⟨39, _⟩ => ⟨S6x4096x3456, .i32⟩
  | .hbm, ⟨40, _⟩ => ⟨S_, .i32⟩
  | .hbm, ⟨41, _⟩ => ⟨S6x4096x3456, .i32⟩
  | .hbm, ⟨42, _⟩ => ⟨S6x4096x3456, .i32⟩
  | .hbm, ⟨43, _⟩ => ⟨S6x4096x3456, .i32⟩
  | .hbm, ⟨44, _⟩ => ⟨S_, .i32⟩
  | .hbm, ⟨45, _⟩ => ⟨S6x4096x3456, .i32⟩
  | .hbm, ⟨46, _⟩ => ⟨S6x4096x3456, .i32⟩
  | .hbm, ⟨47, _⟩ => ⟨S_, .i32⟩
  | .hbm, ⟨48, _⟩ => ⟨S6x4096x3456, .i32⟩
  | .hbm, ⟨49, _⟩ => ⟨S6x4096x3456, .i32⟩
  | .hbm, ⟨50, _⟩ => ⟨S6x4096x3456, .i32⟩
  | .hbm, ⟨51, _⟩ => ⟨S6x4096x3456, .i8⟩
  | .hbm, ⟨52, _⟩ => ⟨S6912x2560, .i8⟩
  | .hbm, ⟨53, _⟩ => ⟨S6912x2560, .i32⟩
  | .hbm, ⟨54, _⟩ => ⟨S_, .i32⟩
  | .hbm, ⟨55, _⟩ => ⟨S6912x2560, .i32⟩
  | .hbm, ⟨56, _⟩ => ⟨S6912x2560, .i32⟩
  | .hbm, ⟨57, _⟩ => ⟨S_, .i32⟩
  | .hbm, ⟨58, _⟩ => ⟨S6912x2560, .i32⟩
  | .hbm, ⟨59, _⟩ => ⟨S6912x2560, .i32⟩
  | .hbm, ⟨60, _⟩ => ⟨S_, .i32⟩
  | .hbm, ⟨61, _⟩ => ⟨S6912x2560, .i32⟩
  | .hbm, ⟨62, _⟩ => ⟨S6912x2560, .i32⟩
  | .hbm, ⟨63, _⟩ => ⟨S6912x2560x1, .i32⟩
  | .hbm, ⟨64, _⟩ => ⟨S6912x2560x1, .i32⟩
  | .hbm, ⟨65, _⟩ => ⟨S6912x2560x2, .i32⟩
  | .hbm, ⟨66, _⟩ => ⟨S6912x5120, .i32⟩
  | .hbm, ⟨67, _⟩ => ⟨S6912x5120, .bf16⟩
  | .hbm, ⟨68, _⟩ => ⟨S108x64x5120, .bf16⟩
  | .hbm, ⟨69, _⟩ => ⟨S108x5120, .bf16⟩
  | .hbm, ⟨70, _⟩ => ⟨S108x1x5120, .bf16⟩
  | .hbm, ⟨71, _⟩ => ⟨S108x64x5120, .bf16⟩
  | .hbm, ⟨72, _⟩ => ⟨S108x64x5120, .bf16⟩
  | .hbm, ⟨73, _⟩ => ⟨S6912x5120, .bf16⟩
  | .hbm, ⟨74, _⟩ => ⟨S6x4096x5120, .f32⟩
  | .hbm, ⟨75, _⟩ => ⟨S6x4096x64, .f32⟩
  | .hbm, ⟨76, _⟩ => ⟨S6x4096x64, .bf16⟩
  | .hbm, ⟨77, _⟩ => ⟨S6x4096x5120, .f32⟩
  | .hbm, ⟨78, _⟩ => ⟨S6x4096x5120, .f32⟩
  | .hbm, ⟨79, _⟩ => ⟨S6x4096x5120, .bf16⟩
  | _, _ => ⟨S6x4096x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proof.KernelRun.Region0.lean ====
/- The dequantisation call's region at the entry contents `V`: what its body leaves in the output block, as a
   list of tiles stated by their number, and the body's obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.Gen.Kernel.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dequant_w` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The tiles the body stores -/

/-- One stored tile: 32 rows by 128 columns of the dequantised weight, from the packed bytes `w` and the scale row
    `s`; `ic` is the lane offset (0 or 64) at which the tile's 64 bytes per row start. -/
def TILE (ic : BitVec 32) (s : Vec F S1x1x128 .f32) (w : Vec F S32x128 .i8) : FVec F S32x128 .bf16 :=
  have v0 : IVec S8x128 32 := iota .tc S8x128 32 [1] iota_S8x128_d1_w32
  have v4 : IVec S8x128 1 := cmpi .eq (andi v0 (broadcast S8x128 1#32)) (broadcast S8x128 0#32)
  have v6 : IVec S8x128 32 := shrsi v0 (broadcast S8x128 1#32)
  have v11 : IVec S8x128 32 := bitcast S8x128 32 w bitcasts_S32x128_w8_S8x128_w32
  have v13 : IVec S8x128 32 := addi v6 (broadcast S8x128 ic)
  have v18 : IVec S8x128 32 := select (cmpi .slt v13 (broadcast S8x128 0#32)) (addi v13 (broadcast S8x128 128#32)) v13
  have v20 : IVec S8x128 32 := shapeCast S8x128 (shapeCast S8x128x1 v18 shapeCasts_S8x128_S8x128x1) shapeCasts_S8x128x1_S8x128
  have v21 : IVec S8x128 32 := dynamicGather 1 v11 v20
  have v24 : IVec S8x128 32 := select v4 (shli v21 (broadcast S8x128 4#32)) v21
  have v26 : IVec S8x128 32 := andi v24 (broadcast S8x128 4042322160#32)
  have v28 : FVec F S32x128 .bf16 := sitofp .bf16 (bitcast S32x128 8 v26 bitcasts_S8x128_w32_S32x128_w8)
  have v30 : FVec F S32x128 .bf16 := mulf v28 (broadcast S32x128 (Scalar.ofBits .bf16 0x3D80#16))
  mulf v30 (broadcastTo S32x128 (k0_pay4 s) broadcasts_S1x128_S32x128)

/-- Store `j` of the body writes rows `row j … row j + 31` and columns `col j … col j + 127`. -/
abbrev row (j : ℕ) : ℕ := 64 * (j / 80) + 32 * (j % 2)
abbrev col (j : ℕ) : ℕ := 128 * (j % 80 / 2)
/-- The packed bytes a store reads start at this column, a multiple of 128. -/
abbrev pcol (j : ℕ) : ℕ := 128 * (j % 80 / 4)
/-- The lane at which the store's bytes start within the 128 columns it reads. -/
abbrev lane0 (j : ℕ) : BitVec 32 := if j % 80 / 2 % 2 = 0 then 0#32 else 64#32

/-- The rows and columns of a store lie in the output block. -/
theorem inb_out (j : ℕ) (h : j < 320) : ∀ a : Fin 2, (![row j, col j] : Fin 2 → ℕ) a + S32x128.size a ≤ S256x5120.size a := by
  intro d; fin_cases d <;> simp [row, col, pcol, S32x128, S1x1x128, S256x5120, S256x2560, S1x4x5120] <;> omega
/-- The rows and columns of the packed bytes a store reads lie in their block. -/
theorem inb_w (j : ℕ) (h : j < 320) : ∀ a : Fin 2, (![row j, pcol j] : Fin 2 → ℕ) a + S32x128.size a ≤ S256x2560.size a := by
  intro d; fin_cases d <;> simp [row, col, pcol, S32x128, S1x1x128, S256x5120, S256x2560, S1x4x5120] <;> omega
/-- The row of scales a store reads lies in its block. -/
theorem inb_s (j : ℕ) (h : j < 320) : ∀ a : Fin 3, (![0, j / 80, col j] : Fin 3 → ℕ) a + S1x1x128.size a ≤ S1x4x5120.size a := by
  intro d; fin_cases d <;> simp [row, col, pcol, S32x128, S1x1x128, S256x5120, S256x2560, S1x4x5120] <;> omega

/-- Store `j` as a piece of the output block. -/
def tile (x0 : Vec F S256x2560 .i8) (x1 : Vec F S1x4x5120 .f32) (j : ℕ) (h : j < 320) : View.Piece (Elt F) S256x5120 .bf16 :=
  ⟨Rect.unit (s := S256x5120) ![row j, col j] S32x128.size (inb_out j h),
    TILE (lane0 j) (View.ld x1 (Rect.unit (s := S1x4x5120) ![0, j / 80, col j] S1x1x128.size (inb_s j h)))
      (View.ld x0 (Rect.unit (s := S256x2560) ![row j, pcol j] S32x128.size (inb_w j h)))⟩

/-- The first `n` stores, last first. -/
def tiles (x0 : Vec F S256x2560 .i8) (x1 : Vec F S1x4x5120 .f32) : (n : ℕ) → n ≤ 320 → List (View.Piece (Elt F) S256x5120 .bf16)
  | 0, _ => []
  | n + 1, h => tile x0 x1 n h :: tiles x0 x1 n (Nat.le_of_succ_le h)

/-- Every store before `n` is in the list. -/
theorem tile_mem (x0 : Vec F S256x2560 .i8) (x1 : Vec F S1x4x5120 .f32) (j : ℕ) (hj : j < 320) :
    ∀ (n : ℕ) (h : n ≤ 320), j < n → tile x0 x1 j hj ∈ tiles x0 x1 n h
  | 0, _, h => absurd h (Nat.not_lt_zero _)
  | n + 1, h, hl => by
      unfold tiles
      rcases Nat.lt_succ_iff_lt_or_eq.1 hl with hl | rfl
      · exact List.mem_cons_of_mem _ (tile_mem x0 x1 j hj n _ hl)
      · exact List.mem_cons_self

/-- The list holds nothing else. -/
theorem of_tile_mem (x0 : Vec F S256x2560 .i8) (x1 : Vec F S1x4x5120 .f32) :
    ∀ (n : ℕ) (h : n ≤ 320) (p), p ∈ tiles x0 x1 n h → ∃ (j : ℕ) (hj : j < 320), p = tile x0 x1 j hj
  | 0, _, p, hp => by simp [tiles] at hp
  | n + 1, h, p, hp => by
      unfold tiles at hp
      rcases List.mem_cons.1 hp with rfl | hp
      · exact ⟨n, h, rfl⟩
      · exact of_tile_mem x0 x1 n _ p hp

/-- The output block after the body. -/
def out0_2 (x0 : Vec F S256x2560 .i8) (x1 : Vec F S1x4x5120 .f32) : Vec F S256x5120 .bf16 :=
  View.canon (tiles x0 x1 320 le_rfl)

/-- Its stores cover the block. -/
theorem cover0_2 (x0 : Vec F S256x2560 .i8) (x1 : Vec F S1x4x5120 .f32) (y : S256x5120.Idx) :
    ∃ pc ∈ tiles x0 x1 320 le_rfl, y ∈ pc.1.set := by
  have h0 : (y 0).val < 256 := (y 0).isLt
  have h1 : (y 1).val < 5120 := (y 1).isLt
  have hj : 80 * ((y 0).val / 64) + 2 * ((y 1).val / 128) + (y 0).val / 32 % 2 < 320 := by omega
  refine ⟨_, tile_mem x0 x1 _ hj 320 le_rfl hj, ?_⟩
  unfold tile
  rw [Rect.mem_set_unit]
  intro d
  fin_cases d <;> simp [row, col, S32x128] <;> omega

/-! ## The body's triple -/

set_option maxHeartbeats 6180000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x2560 .i8) (harg1 : arg1.IsWhole) (arg2 : Memref sig .tc .vmem S1x4x5120 .f32) (harg2 : arg2.IsWhole) (arg3 : Memref sig .tc .vmem S256x5120 .bf16) (harg3 : arg3.IsWhole)
    (x0 : Vec F S256x2560 .i8) (x1 : Vec F S1x4x5120 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_dequant_w i arg1 harg1 arg2 harg2 arg3 harg3) K := by
  simp only [cc0_dequant_w_eq_skeleton]; unfold cc0_dequant_w_skel
  simp only [k0_part203_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part204_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part205_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part206_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine Eq.trans (b := arg3.view.read (Elt F) (arg3.view.writes (Elt F) f2 (tiles _ _ 320 le_rfl))) ?_
    (View.read_writes_eq_canon _ _ _ (cover0_2 _ _))
  sl_kernel_rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body leaves in this window. -/
theorem after0_1 (c : Dev nD) (t : Fin cfg0.N) : (dat0 V c).after 1 t = iblk0 V c 1 t := by dsimp only [dat0]
/-- What the body leaves in this window. -/
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What this window holds before the body: its block. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.KernelRun.Fold0.lean ====
/- The buffer contents at the boundaries of the program's calls and host stretches, each from the one before,
   and every argument read back through them. -/
module

public import proofs.«01_k».proof.Proof.KernelRun.Region0
public import proofs.«01_k».proof.Proof.Gen.Kernel.Frame.Region1
public import proofs.«01_k».proof.Proof.Gen.Kernel.Frame.Region2
public import proofs.«01_k».proof.Proof.Gen.Kernel.Frame.Hosts0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
/-- Every argument is as launched at this boundary. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Every argument is as launched at this boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- Each array of the call holds at its exit what its write-backs leave. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the call's arrays keeps its contents across it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- Every argument is as launched at this boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The other buffers keep their contents across the call. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Every argument is as launched at this boundary. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
/-- Each array of the call holds at its exit what its write-backs leave. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is none of the call's arrays keeps its contents across it. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- Every argument is as launched at this boundary. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The other buffers keep their contents across the call. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
/-- Each array of the call holds at its exit what its write-backs leave. -/
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
/-- A buffer that is none of the call's arrays keeps its contents across it. -/
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- Every argument is as launched at this boundary. -/
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
/-- The other buffers keep their contents across the call. -/
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
/-- Every argument is as launched at this boundary. -/
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

/-- This argument is as launched at the end. -/
theorem W6_main_arg0 (c : Dev nD) : W6 m ρ c (Proc.devRef .tc main_arg0) = m ((c : Thread nD τ).loc main_arg0) :=
  W6_args m ρ c main_arg0 (by decide)
/-- This argument is as launched at the end. -/
theorem W6_main_arg1 (c : Dev nD) : W6 m ρ c (Proc.devRef .tc main_arg1) = m ((c : Thread nD τ).loc main_arg1) :=
  W6_args m ρ c main_arg1 (by decide)
/-- This argument is as launched at the end. -/
theorem W6_main_arg2 (c : Dev nD) : W6 m ρ c (Proc.devRef .tc main_arg2) = m ((c : Thread nD τ).loc main_arg2) :=
  W6_args m ρ c main_arg2 (by decide)
/-- This argument is as launched at the end. -/
theorem W6_main_arg3 (c : Dev nD) : W6 m ρ c (Proc.devRef .tc main_arg3) = m ((c : Thread nD τ).loc main_arg3) :=
  W6_args m ρ c main_arg3 (by decide)
/-- This argument is as launched at the end. -/
theorem W6_main_arg4 (c : Dev nD) : W6 m ρ c (Proc.devRef .tc main_arg4) = m ((c : Thread nD τ).loc main_arg4) :=
  W6_args m ρ c main_arg4 (by decide)
end Cert.Kernel.Gen

end
-- ==== Proof.KernelRun.State.lean ====
/- The proof data of the three calls at the contents they are entered with, and the state between them. -/
module

public import proofs.«01_k».proof.Proof.KernelRun.Fold0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

end Cert.Kernel.Gen

end
-- ==== Proof.KernelRun.Record0.lean ====
/- The dequantisation call as a segment of the run. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record1.lean ====
/- The quantisation call as a segment of the run. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Record2.lean ====
/- The call of the two products as a segment of the run. -/
module

public import proofs.«01_k».proof.Proof.KernelRun.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelRun.Frame.lean ====
/- The whole run: its host stretches and three calls in order, what every buffer holds at the end, and the frame claim. -/
module

public import proofs.«01_k».proof.Proof.KernelRun.Record0
public import proofs.«01_k».proof.Proof.KernelRun.Record1
public import proofs.«01_k».proof.Proof.KernelRun.Record2

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.Kernel.Gen

end
-- ==== Proof.KernelIdealRun.Region0.lean ====
/- The dequantisation call's region at the entry contents `V`: what its body leaves in the output block, as a
   list of tiles stated by their number, and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dequant_w` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The tiles the body stores -/

/-- One stored tile: 32 rows by 128 columns of the dequantised weight, from the packed bytes `w` and the scale row
    `s`; `ic` is the lane offset (0 or 64) at which the tile's 64 bytes per row start. -/
def TILE (ic : BitVec 32) (s : Vec F S1x1x128 .f32) (w : Vec F S32x128 .i8) : FVec F S32x128 .bf16 :=
  have v0 : IVec S8x128 32 := iota .tc S8x128 32 [1] iota_S8x128_d1_w32
  have v4 : IVec S8x128 1 := cmpi .eq (andi v0 (broadcast S8x128 1#32)) (broadcast S8x128 0#32)
  have v6 : IVec S8x128 32 := shrsi v0 (broadcast S8x128 1#32)
  have v11 : IVec S8x128 32 := bitcast S8x128 32 w bitcasts_S32x128_w8_S8x128_w32
  have v13 : IVec S8x128 32 := addi v6 (broadcast S8x128 ic)
  have v18 : IVec S8x128 32 := select (cmpi .slt v13 (broadcast S8x128 0#32)) (addi v13 (broadcast S8x128 128#32)) v13
  have v20 : IVec S8x128 32 := shapeCast S8x128 (shapeCast S8x128x1 v18 shapeCasts_S8x128_S8x128x1) shapeCasts_S8x128x1_S8x128
  have v21 : IVec S8x128 32 := dynamicGather 1 v11 v20
  have v24 : IVec S8x128 32 := select v4 (shli v21 (broadcast S8x128 4#32)) v21
  have v26 : IVec S8x128 32 := andi v24 (broadcast S8x128 4042322160#32)
  have v28 : FVec F S32x128 .bf16 := sitofp .bf16 (bitcast S32x128 8 v26 bitcasts_S8x128_w32_S32x128_w8)
  have v30 : FVec F S32x128 .bf16 := mulf v28 (broadcast S32x128 (Scalar.ofBits .bf16 0x3D80#16))
  mulf v30 (broadcastTo S32x128 (k0_pay4 s) broadcasts_S1x128_S32x128)

/-- Store `j` of the body writes rows `row j … row j + 31` and columns `col j … col j + 127`. -/
abbrev row (j : ℕ) : ℕ := 64 * (j / 80) + 32 * (j % 2)
abbrev col (j : ℕ) : ℕ := 128 * (j % 80 / 2)
/-- The packed bytes a store reads start at this column, a multiple of 128. -/
abbrev pcol (j : ℕ) : ℕ := 128 * (j % 80 / 4)
/-- The lane at which the store's bytes start within the 128 columns it reads. -/
abbrev lane0 (j : ℕ) : BitVec 32 := if j % 80 / 2 % 2 = 0 then 0#32 else 64#32

/-- The rows and columns of a store lie in the output block. -/
theorem inb_out (j : ℕ) (h : j < 320) : ∀ a : Fin 2, (![row j, col j] : Fin 2 → ℕ) a + S32x128.size a ≤ S256x5120.size a := by
  intro d; fin_cases d <;> simp [row, col, pcol, S32x128, S1x1x128, S256x5120, S256x2560, S1x4x5120] <;> omega
/-- The rows and columns of the packed bytes a store reads lie in their block. -/
theorem inb_w (j : ℕ) (h : j < 320) : ∀ a : Fin 2, (![row j, pcol j] : Fin 2 → ℕ) a + S32x128.size a ≤ S256x2560.size a := by
  intro d; fin_cases d <;> simp [row, col, pcol, S32x128, S1x1x128, S256x5120, S256x2560, S1x4x5120] <;> omega
/-- The row of scales a store reads lies in its block. -/
theorem inb_s (j : ℕ) (h : j < 320) : ∀ a : Fin 3, (![0, j / 80, col j] : Fin 3 → ℕ) a + S1x1x128.size a ≤ S1x4x5120.size a := by
  intro d; fin_cases d <;> simp [row, col, pcol, S32x128, S1x1x128, S256x5120, S256x2560, S1x4x5120] <;> omega

/-- Store `j` as a piece of the output block. -/
def tile (x0 : Vec F S256x2560 .i8) (x1 : Vec F S1x4x5120 .f32) (j : ℕ) (h : j < 320) : View.Piece (Elt F) S256x5120 .bf16 :=
  ⟨Rect.unit (s := S256x5120) ![row j, col j] S32x128.size (inb_out j h),
    TILE (lane0 j) (View.ld x1 (Rect.unit (s := S1x4x5120) ![0, j / 80, col j] S1x1x128.size (inb_s j h)))
      (View.ld x0 (Rect.unit (s := S256x2560) ![row j, pcol j] S32x128.size (inb_w j h)))⟩

/-- The first `n` stores, last first. -/
def tiles (x0 : Vec F S256x2560 .i8) (x1 : Vec F S1x4x5120 .f32) : (n : ℕ) → n ≤ 320 → List (View.Piece (Elt F) S256x5120 .bf16)
  | 0, _ => []
  | n + 1, h => tile x0 x1 n h :: tiles x0 x1 n (Nat.le_of_succ_le h)

/-- Every store before `n` is in the list. -/
theorem tile_mem (x0 : Vec F S256x2560 .i8) (x1 : Vec F S1x4x5120 .f32) (j : ℕ) (hj : j < 320) :
    ∀ (n : ℕ) (h : n ≤ 320), j < n → tile x0 x1 j hj ∈ tiles x0 x1 n h
  | 0, _, h => absurd h (Nat.not_lt_zero _)
  | n + 1, h, hl => by
      unfold tiles
      rcases Nat.lt_succ_iff_lt_or_eq.1 hl with hl | rfl
      · exact List.mem_cons_of_mem _ (tile_mem x0 x1 j hj n _ hl)
      · exact List.mem_cons_self

/-- The list holds nothing else. -/
theorem of_tile_mem (x0 : Vec F S256x2560 .i8) (x1 : Vec F S1x4x5120 .f32) :
    ∀ (n : ℕ) (h : n ≤ 320) (p), p ∈ tiles x0 x1 n h → ∃ (j : ℕ) (hj : j < 320), p = tile x0 x1 j hj
  | 0, _, p, hp => by simp [tiles] at hp
  | n + 1, h, p, hp => by
      unfold tiles at hp
      rcases List.mem_cons.1 hp with rfl | hp
      · exact ⟨n, h, rfl⟩
      · exact of_tile_mem x0 x1 n _ p hp

/-- The output block after the body. -/
def out0_2 (x0 : Vec F S256x2560 .i8) (x1 : Vec F S1x4x5120 .f32) : Vec F S256x5120 .bf16 :=
  View.canon (tiles x0 x1 320 le_rfl)

/-- Its stores cover the block. -/
theorem cover0_2 (x0 : Vec F S256x2560 .i8) (x1 : Vec F S1x4x5120 .f32) (y : S256x5120.Idx) :
    ∃ pc ∈ tiles x0 x1 320 le_rfl, y ∈ pc.1.set := by
  have h0 : (y 0).val < 256 := (y 0).isLt
  have h1 : (y 1).val < 5120 := (y 1).isLt
  have hj : 80 * ((y 0).val / 64) + 2 * ((y 1).val / 128) + (y 0).val / 32 % 2 < 320 := by omega
  refine ⟨_, tile_mem x0 x1 _ hj 320 le_rfl hj, ?_⟩
  unfold tile
  rw [Rect.mem_set_unit]
  intro d
  fin_cases d <;> simp [row, col, S32x128] <;> omega

/-! ## The body's triple -/

set_option maxHeartbeats 6180000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x2560 .i8) (harg1 : arg1.IsWhole) (arg2 : Memref sig .tc .vmem S1x4x5120 .f32) (harg2 : arg2.IsWhole) (arg3 : Memref sig .tc .vmem S256x5120 .bf16) (harg3 : arg3.IsWhole)
    (x0 : Vec F S256x2560 .i8) (x1 : Vec F S1x4x5120 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_dequant_w i arg1 harg1 arg2 harg2 arg3 harg3) K := by
  simp only [cc0_dequant_w_eq_skeleton]; unfold cc0_dequant_w_skel
  simp only [k0_part203_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part204_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part205_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part206_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine Eq.trans (b := arg3.view.read (Elt F) (arg3.view.writes (Elt F) f2 (tiles _ _ 320 le_rfl))) ?_
    (View.read_writes_eq_canon _ _ _ (cover0_2 _ _))
  sl_kernel_rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body leaves in this window. -/
theorem after0_1 (c : Dev nD) (t : Fin cfg0.N) : (dat0 V c).after 1 t = iblk0 V c 1 t := by dsimp only [dat0]
/-- What the body leaves in this window. -/
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- What this window holds before the body: its block. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealRun.Fold0.lean ====
/- The buffer contents at the boundaries of the program's calls and host stretches, each from the one before,
   and every argument read back through them. -/
module

public import proofs.«01_k».proof.Proof.KernelIdealRun.Region0
public import proofs.«01_k».proof.Proof.Gen.KernelIdeal.Frame.Region1
public import proofs.«01_k».proof.Proof.Gen.KernelIdeal.Frame.Region2
public import proofs.«01_k».proof.Proof.Gen.KernelIdeal.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
/-- Every argument is as launched at this boundary. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Every argument is as launched at this boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- Each array of the call holds at its exit what its write-backs leave. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the call's arrays keeps its contents across it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- Every argument is as launched at this boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The other buffers keep their contents across the call. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Every argument is as launched at this boundary. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
/-- Each array of the call holds at its exit what its write-backs leave. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is none of the call's arrays keeps its contents across it. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- Every argument is as launched at this boundary. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The other buffers keep their contents across the call. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
/-- Each array of the call holds at its exit what its write-backs leave. -/
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
/-- A buffer that is none of the call's arrays keeps its contents across it. -/
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- Every argument is as launched at this boundary. -/
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
/-- The other buffers keep their contents across the call. -/
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
/-- Every argument is as launched at this boundary. -/
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

/-- This argument is as launched at the end. -/
theorem W6_main_arg0 (c : Dev nD) : W6 m ρ c (Proc.devRef .tc main_arg0) = m ((c : Thread nD τ).loc main_arg0) :=
  W6_args m ρ c main_arg0 (by decide)
/-- This argument is as launched at the end. -/
theorem W6_main_arg1 (c : Dev nD) : W6 m ρ c (Proc.devRef .tc main_arg1) = m ((c : Thread nD τ).loc main_arg1) :=
  W6_args m ρ c main_arg1 (by decide)
/-- This argument is as launched at the end. -/
theorem W6_main_arg2 (c : Dev nD) : W6 m ρ c (Proc.devRef .tc main_arg2) = m ((c : Thread nD τ).loc main_arg2) :=
  W6_args m ρ c main_arg2 (by decide)
/-- This argument is as launched at the end. -/
theorem W6_main_arg3 (c : Dev nD) : W6 m ρ c (Proc.devRef .tc main_arg3) = m ((c : Thread nD τ).loc main_arg3) :=
  W6_args m ρ c main_arg3 (by decide)
/-- This argument is as launched at the end. -/
theorem W6_main_arg4 (c : Dev nD) : W6 m ρ c (Proc.devRef .tc main_arg4) = m ((c : Thread nD τ).loc main_arg4) :=
  W6_args m ρ c main_arg4 (by decide)
end Cert.KernelIdeal.Gen

end
-- ==== Proof.KernelIdealRun.State.lean ====
/- The proof data of the three calls at the contents they are entered with, and the state between them. -/
module

public import proofs.«01_k».proof.Proof.KernelIdealRun.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

end Cert.KernelIdeal.Gen

end
-- ==== Proof.KernelIdealRun.Record0.lean ====
/- The dequantisation call as a segment of the run. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record1.lean ====
/- The quantisation call as a segment of the run. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Record2.lean ====
/- The call of the two products as a segment of the run. -/
module

public import proofs.«01_k».proof.Proof.KernelIdealRun.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealRun.Frame.lean ====
/- The whole run: its host stretches and three calls in order, what every buffer holds at the end, and the frame claim. -/
module

public import proofs.«01_k».proof.Proof.KernelIdealRun.Record0
public import proofs.«01_k».proof.Proof.KernelIdealRun.Record1
public import proofs.«01_k».proof.Proof.KernelIdealRun.Record2

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.KernelIdeal.Gen

end
-- ==== Proof.QuantModel.lean ====
/- The quantisation body by its parts: the tree of maxima, scales, codes, and the tiles it stores. -/
module

public import proofs.«01_k».proof.Proof.Gen.KernelIdeal.Loops
public import Idealize.ShloMosaic.Lib.Pipeline.ValueKit

@[expose] public section

set_option maxRecDepth 16384

noncomputable section

namespace Cert.KernelIdeal.Quant

open Idealize.ShloMosaic Idealize.ShloMosaic.TcCoe Idealize.SL.Sem
open Cert.KernelIdeal.Gen

variable {F : FTy → Type} [FloatOps F]

/-- The lane numbers of a 16-row and of an 8-row register. -/
abbrev LANE : IVec S16x128 32 := iota .tc S16x128 32 [1] iota_S16x128_d1_w32

/-- A lane index, brought into range when negative, as a gather takes it. -/
abbrev IDX (a : IVec S16x128 32) : IVec S16x128 32 :=
  shapeCast S16x128
    (shapeCast S16x128x1
      (select (cmpi .slt a (broadcast S16x128 0#32)) (addi a (broadcast S16x128 128#32)) a)
      shapeCasts_S16x128_S16x128x1) shapeCasts_S16x128x1_S16x128

/-- The same for an 8-row register. -/
abbrev IDX8 (a : IVec S8x128 32) : IVec S8x128 32 :=
  shapeCast S8x128
    (shapeCast S8x128x1
      (select (cmpi .slt a (broadcast S8x128 0#32)) (addi a (broadcast S8x128 128#32)) a)
      shapeCasts_S8x128_S8x128x1) shapeCasts_S8x128x1_S8x128

/-- One register's absolute values. -/
def LEAF (x : Vec F S16x128 .bf16) : FVec F S16x128 .f32 :=
  absf (extf .f32 (shapeCast S16x128 x shapeCasts_S16x128_S16x128) bitsLt_bf16_f32)

/-- Two registers folded into one: lane `j` gets the larger of its own and its partner `j xor k`'s,
of the first register where bit `k` of `j` is clear and of the second where it is set. -/
def NODE2 (k : BitVec 32) (a b : FVec F S16x128 .f32) : FVec F S16x128 .f32 :=
  maximumf
    (select (cmpi .eq (andi LANE (broadcast S16x128 k)) (broadcast S16x128 0#32)) a b)
    (dynamicGather 1
      (select (cmpi .eq (andi LANE (broadcast S16x128 k)) (broadcast S16x128 0#32)) b a)
      (IDX (xori LANE (broadcast S16x128 k))))

/-- One register folded with itself. -/
def NODE1 (k : BitVec 32) (a : FVec F S16x128 .f32) : FVec F S16x128 .f32 :=
  maximumf a (dynamicGather 1 a (IDX (xori LANE (broadcast S16x128 k))))

/-- The tree of folds over the registers from `v`, `2 ^ l` of them or as many as there are. -/
def TREE (x : ℕ → Vec F S16x128 .bf16) : ℕ → ℕ → FVec F S16x128 .f32
  | 0, v => LEAF (x v)
  | l + 1, v =>
      bif Nat.blt (v + 2 ^ l) 54 then NODE2 (BitVec.ofNat 32 (2 ^ l)) (TREE x l v) (TREE x l (v + 2 ^ l))
      else NODE1 (BitVec.ofNat 32 (2 ^ l)) (TREE x l v)

/-- The groups' scales from their largest magnitudes. -/
def SCALE (am : FVec F S16x128 .f32) : FVec F S16x128 .f32 :=
  select (cmpf .oeq am (broadcast S16x128 (FloatOps.ofBits .f32 0x00000000#32)))
    (broadcast S16x128 (FloatOps.ofBits .f32 0x3F800000#32))
    (divf am (broadcast S16x128 (FloatOps.ofBits .f32 0x40E00000#32)))

/-- The scales in the groups' order, as they are stored. -/
def SCALES (s : FVec F S16x128 .f32) : FVec F S16x108 .f32 :=
  extractStridedSlice S16x108 ![0, 0] (dynamicGather 1 s (IDX k1_pay1)) slices_S16x128_o0_0_S16x108

/-- Register `v`'s lanes' groups among the scales. -/
abbrev GRP (v : ℕ) : IVec S16x128 32 :=
  IDX (addi (andi LANE (broadcast S16x128 64#32)) (broadcast S16x128 (BitVec.ofNat 32 v)))

/-- Register `v`'s quantised values. -/
def Q (x : Vec F S16x128 .bf16) (s : FVec F S16x128 .f32) (v : ℕ) : FVec F S16x128 .bf16 :=
  truncf .bf16
    (minimumf (broadcast S16x128 (FloatOps.ofBits .f32 0x40E00000#32))
      (maximumf (broadcast S16x128 (FloatOps.ofBits .f32 0xC1000000#32))
        (roundeven
          (mulf (extf .f32 (shapeCast S16x128 x shapeCasts_S16x128_S16x128) bitsLt_bf16_f32)
            (dynamicGather 1 (divf (broadcast S16x128 (FloatOps.ofBits .f32 0x3F800000#32)) s) (GRP v))))))
    bitsLt_bf16_f32

/-- Register `v`'s dequantised values. -/
def XDQ (x : Vec F S16x128 .bf16) (s : FVec F S16x128 .f32) (v : ℕ) : FVec F S16x128 .bf16 :=
  mulf (Q x s v) (truncf .bf16 (dynamicGather 1 s (GRP v)) bitsLt_bf16_f32)

/-- Register `v`'s codes, each in a byte, two rows to a word. -/
def PACK (x : Vec F S16x128 .bf16) (s : FVec F S16x128 .f32) (v : ℕ) : IVec S8x128 32 :=
  bitcast S8x128 32
    (addi (fptosi 16 (addf (Q x s v) (broadcast S16x128 (FloatOps.ofBits .bf16 0x4308#16))))
      (broadcast S16x128 17024#16)) bitcasts_S16x128_w16_S8x128_w32

/-- Two registers' codes, a pair of lanes to a byte. -/
def PAIR (a b : IVec S8x128 32) : IVec S8x128 32 :=
  xori
    (andi
      (dynamicGather 1
        (xori (select k1_pay2 a (dynamicRotate 1 1#32 none b rotates_S8x128_d1))
          (shli (andi (select k1_pay2 (dynamicRotate 1 127#32 none a rotates_S8x128_d1) b)
            (broadcast S8x128 983055#32)) (broadcast S8x128 4#32)))
        (IDX8 k1_pay3))
      (broadcast S8x128 16711935#32)) (broadcast S8x128 8913032#32)

/-- The offsets of register `v` of the half with offset `c` of trip `k`'s rows. -/
abbrev OFF (k : Fin k1_t1_loop.trips) (c : BitVec 32) (v : ℕ) : Fin 2 → ℕ := ![k1_off1 k c 0, 128 * v]

/-- The rows and lanes of a 16 by 128 vector lie in the block. -/
theorem off_inb (k : Fin k1_t1_loop.trips) (r : Fin 2) (v : ℕ) :
    ∀ a, OFF k (BitVec.ofNat 32 (16 * r.val)) (v % 54) a + S16x128.size a ≤ S256x6912.size a := by
  intro a
  have e := k1_off1_eq k r
  have hk : k.val < 8 := Nat.lt_of_lt_of_le k.isLt k1_t1_abs.2.1
  have hr := r.isLt
  fin_cases a <;> simp [OFF, e] <;> omega

/-- The offsets of the codes' tile `p` of trip `k`'s rows. -/
abbrev COFF (k : Fin k1_t1_loop.trips) (p : ℕ) : Fin 2 → ℕ := ![k1_off82 k 0, 128 * p]

/-- The rows and lanes of a tile of packed codes lie in the block. -/
theorem coff_inb (k : Fin k1_t1_loop.trips) (p : ℕ) :
    ∀ a, COFF k (p % 27) a + S32x128.size a ≤ S256x3456.size a := by
  intro a
  have e := k1_off82_eq k
  have hk : k.val < 8 := Nat.lt_of_lt_of_le k.isLt k1_t1_abs.2.1
  fin_cases a <;> simp [COFF, e] <;> omega

section Pieces

variable (arg1 : Memref sig .tc .vmem S256x6912 .bf16) (X : BufTy.Contents (Elt F) arg1.view.ty)
  (k : Fin k1_t1_loop.trips)

/-- The registers of half `r` of trip `k`'s rows. -/
def REG (r : Fin 2) (v : ℕ) : Vec F S16x128 .bf16 :=
  View.readAt (Elt F) arg1.view
    (Rect.unit (s := S256x6912) (OFF k (BitVec.ofNat 32 (16 * r.val)) (v % 54)) S16x128.size (off_inb k r v)).toLoadRect X

/-- The scales of half `r` of trip `k`'s rows. -/
def SC (r : Fin 2) : FVec F S16x128 .f32 := SCALE (TREE (REG arg1 X k r) 6 0)

/-- The tile of dequantised values of register `v`. -/
def xTile (r : Fin 2) (v : ℕ) : View.Piece (Elt F) S256x6912 .bf16 :=
  ⟨Rect.unit (s := S256x6912) (OFF k (BitVec.ofNat 32 (16 * r.val)) (v % 54)) S16x128.size (off_inb k r v),
    XDQ (REG arg1 X k r v) (SC arg1 X k r) v⟩

/-- The first `n` of them, the last first. -/
def xTiles (r : Fin 2) : ℕ → List (View.Piece (Elt F) S256x6912 .bf16)
  | 0 => []
  | n + 1 => xTile arg1 X k r n :: xTiles r n

/-- The packed codes of pair `p` of registers of half `r`. -/
def PK (r : Fin 2) (p : ℕ) : IVec S8x128 32 :=
  PAIR (PACK (REG arg1 X k r (2 * p)) (SC arg1 X k r) (2 * p))
    (PACK (REG arg1 X k r (2 * p + 1)) (SC arg1 X k r) (2 * p + 1))

/-- The tile of codes of pair `p` of registers. -/
def cTile (p : ℕ) : View.Piece (Elt F) S256x3456 .i8 :=
  ⟨Rect.unit (s := S256x3456) (COFF k (p % 27)) S32x128.size (coff_inb k p), k1_pay6 (PK arg1 X k 0 p) (PK arg1 X k 1 p)⟩

/-- The first `n` of them, the last first. -/
def cTiles : ℕ → List (View.Piece (Elt F) S256x3456 .i8)
  | 0 => []
  | n + 1 => cTile arg1 X k n :: cTiles n

/-- The tile of scales of half `r`. -/
def sTile (r : Fin 2) : View.Piece (Elt F) S256x108 .f32 :=
  ⟨Rect.unit (s := S256x108) (k1_off55 k (BitVec.ofNat 32 (16 * r.val))) S16x108.size (k1_off55_inb k r),
    SCALES (SC arg1 X k r)⟩

end Pieces

section Trip

variable (𝒱 : Variants) (c : Dev nD) (bd : Option 𝒱.V) (i : grid1.Coords)
  (arg1 : Memref sig .tc .vmem S256x6912 .bf16) (harg1 : arg1.IsWhole)
  (arg2 : Memref sig .tc .vmem S6912x64 .bf16) (harg2 : arg2.IsWhole)
  (arg3 : Memref sig .tc .vmem S256x6912 .bf16) (harg3 : arg3.IsWhole)
  (arg4 : Memref sig .tc .vmem S256x3456 .i8) (harg4 : arg4.IsWhole)
  (arg5 : Memref sig .tc .vmem S256x108 .f32) (harg5 : arg5.IsWhole)
  (arg6 : Memref sig .tc .vmem S256x64 .bf16) (harg6 : arg6.IsWhole)
  (X : BufTy.Contents (Elt F) arg1.view.ty) (k : Fin k1_t1_loop.trips)

/-- The scales a trip stores. -/
theorem trip_scales :
    (tripL_k1_t1 (F := F) 𝒱 c bd i arg1 harg1 arg2 harg2 arg3 harg3 arg4 harg4 arg5 harg5 arg6 harg6 LANE X k).2.2
      = [sTile arg1 X k 1, sTile arg1 X k 0] := by
  sl_kernel_rfl

/-- The dequantised values a trip stores. -/
theorem trip_values :
    (tripL_k1_t1 (F := F) 𝒱 c bd i arg1 harg1 arg2 harg2 arg3 harg3 arg4 harg4 arg5 harg5 arg6 harg6 LANE X k).1
      = xTiles arg1 X k 1 54 ++ xTiles arg1 X k 0 54 := by
  sl_kernel_rfl

/-- The codes a trip stores. -/
theorem trip_codes :
    (tripL_k1_t1 (F := F) 𝒱 c bd i arg1 harg1 arg2 harg2 arg3 harg3 arg4 harg4 arg5 harg5 arg6 harg6 LANE X k).2.1
      = cTiles arg1 X k 27 := by
  sl_kernel_rfl

end Trip

end Cert.KernelIdeal.Quant

end
-- ==== Proof.QuantTree.lean ====
/- The tree of lane exchanges: which groups each lane has seen after each level, and the maxima at the end. -/
module

public import proofs.«01_k».proof.Proof.QuantModel

@[expose] public section

set_option maxRecDepth 16384

noncomputable section

namespace Cert.KernelIdeal.Quant

open Idealize.ShloMosaic Idealize.ShloMosaic.TcCoe Idealize.SL.Sem
open Cert.KernelIdeal.Gen

/-- The index at row `i` and lane `j` of a 16-row register. -/
def ix (i : Fin 16) (j : Fin 128) : S16x128.Idx := fun
  | ⟨0, _⟩ => i
  | ⟨1, _⟩ => j

/-- The index at row `i` and lane `j` of an 8-row register. -/
def ix8 (i : Fin 8) (j : Fin 128) : S8x128.Idx := fun
  | ⟨0, _⟩ => i
  | ⟨1, _⟩ => j

/-- The lane number, at one lane of sixteen rows. -/
theorem lane_at (i : Fin 16) (j : Fin 128) : LANE (ix i j) = BitVec.ofNat 32 j.val := by
  simp [iota, ix]

/-- A gather along the lanes takes, at each lane, the lane its index names. -/
theorem gather_at {α : Type} (x : S16x128.Idx → α) (I : IVec S16x128 32) (i : Fin 16) (j n : Fin 128)
    (h : I (ix i j) = BitVec.ofNat 32 n.val) : dynamicGather 1 x I (ix i j) = x (ix i n) := by
  rw [dynamicGather_apply, h]
  congr 1
  funext a
  have hn := n.isLt
  fin_cases a
  · rfl
  · apply Fin.ext
    simp [ix, Nat.mod_eq_of_lt (show n.val < 4294967296 by omega), Nat.mod_eq_of_lt hn]

/-- Taking lanes of eight rows, at one lane. -/
theorem gather8_at {α : Type} (x : S8x128.Idx → α) (I : IVec S8x128 32) (i : Fin 8) (j n : Fin 128)
    (h : I (ix8 i j) = BitVec.ofNat 32 n.val) : dynamicGather 1 x I (ix8 i j) = x (ix8 i n) := by
  rw [dynamicGather_apply, h]
  congr 1
  funext a
  have hn := n.isLt
  fin_cases a
  · rfl
  · apply Fin.ext
    simp [ix8, Nat.mod_eq_of_lt (show n.val < 4294967296 by omega), Nat.mod_eq_of_lt hn]

/-- An index already in range stays as it is. -/
theorem idx_word : ∀ n : Fin 128,
    Scalar.select (IntOp.cmpi .slt (BitVec.ofNat 32 n.val) 0#32) (IntOp.addi (BitVec.ofNat 32 n.val) 128#32)
      (BitVec.ofNat 32 n.val) = BitVec.ofNat 32 n.val := by
  decide +kernel

/-- The lane numbers as the lane exchange of sixteen rows takes them. -/
theorem idx_at (a : IVec S16x128 32) (i : Fin 16) (j n : Fin 128) (h : a (ix i j) = BitVec.ofNat 32 n.val) :
    IDX a (ix i j) = BitVec.ofNat 32 n.val := by
  unfold IDX
  rw [shapeCast_shapeCast]
  show Scalar.select (IntOp.cmpi .slt (a (ix i j)) 0#32) (IntOp.addi (a (ix i j)) 128#32) (a (ix i j)) = _
  rw [h]
  exact idx_word n

/-- The lane numbers as the lane exchange of eight rows takes them. -/
theorem idx8_at (a : IVec S8x128 32) (i : Fin 8) (j n : Fin 128) (h : a (ix8 i j) = BitVec.ofNat 32 n.val) :
    IDX8 a (ix8 i j) = BitVec.ofNat 32 n.val := by
  unfold IDX8
  rw [shapeCast_shapeCast]
  show Scalar.select (IntOp.cmpi .slt (a (ix8 i j)) 0#32) (IntOp.addi (a (ix8 i j)) 128#32) (a (ix8 i j)) = _
  rw [h]
  exact idx_word n

/-- Lane `j`'s partner at fold `l`. -/
def part (l : Fin 6) (j : Fin 128) : Fin 128 := ⟨(j.val ^^^ 2 ^ l.val) % 128, Nat.mod_lt _ (by decide)⟩

/-- The partner of a lane at level `l`, as a word: its bit `l` is flipped. -/
theorem part_word : ∀ (l : Fin 6) (j : Fin 128),
    IntOp.xori (BitVec.ofNat 32 j.val) (BitVec.ofNat 32 (2 ^ l.val)) = BitVec.ofNat 32 (part l j).val := by
  decide +kernel

/-- The mask of level `l` tells whether bit `l` of the lane's number is clear. -/
theorem bit_word : ∀ (l : Fin 6) (j : Fin 128),
    IntOp.cmpi .eq (IntOp.andi (BitVec.ofNat 32 j.val) (BitVec.ofNat 32 (2 ^ l.val))) 0#32
      = if j.val / 2 ^ l.val % 2 = 0 then 1#1 else 0#1 := by
  decide +kernel

/-- A lane and its partner differ in bit `l`. -/
theorem part_bit : ∀ (l : Fin 6) (j : Fin 128), ((part l j).val / 2 ^ l.val % 2 = 0 ↔ ¬ j.val / 2 ^ l.val % 2 = 0) := by
  decide +kernel

/-- A lane and its partner agree below bit `l`. -/
theorem part_low : ∀ (l : Fin 6) (j : Fin 128), (part l j).val % 2 ^ l.val = j.val % 2 ^ l.val := by
  decide +kernel

/-- The low bits of a lane's number up to bit `l`, from those below it. -/
theorem low_succ : ∀ (l : Fin 6) (j : Fin 128), j.val % 2 ^ (l.val + 1)
    = j.val % 2 ^ l.val + if j.val / 2 ^ l.val % 2 = 0 then 0 else 2 ^ l.val := by
  decide +kernel

/-- The lanes that meet lane `j` in the first `l` folds: those that agree with it above bit `l`. -/
abbrev Near (l : ℕ) (j s : Fin 128) : Prop := s.val / 2 ^ l = j.val / 2 ^ l

/-- The high bits of the partner's number, from bit `l` on. -/
theorem part_high : ∀ (l : Fin 6) (j : Fin 128), (part l j).val / 2 ^ l.val
    = if j.val / 2 ^ l.val % 2 = 0 then j.val / 2 ^ l.val + 1 else j.val / 2 ^ l.val - 1 := by
  decide +kernel

/-- The lanes reached after level `l` are those reached before, from a lane and from its partner. -/
theorem near_succ (l : Fin 6) (j s : Fin 128) : Near (l.val + 1) j s ↔ Near l.val j s ∨ Near l.val (part l j) s := by
  have h := part_high l j
  unfold Near
  generalize hp : (part l j).val / 2 ^ l.val = q at h ⊢
  rw [Nat.pow_succ, ← Nat.div_div_eq_div_mul, ← Nat.div_div_eq_div_mul]
  generalize j.val / 2 ^ l.val = a at h ⊢
  generalize s.val / 2 ^ l.val = b at h ⊢
  by_cases hb : a % 2 = 0
  · rw [if_pos hb] at h; omega
  · rw [if_neg hb] at h; omega

/-- The value of a fold of two registers. -/
theorem node2_at (l : Fin 6) (a b : FVec Ideal S16x128 .f32) (i : Fin 16) (j : Fin 128) :
    NODE2 (BitVec.ofNat 32 (2 ^ l.val)) a b (ix i j)
      = if j.val / 2 ^ l.val % 2 = 0 then max (a (ix i j)) (a (ix i (part l j)))
        else max (b (ix i j)) (b (ix i (part l j))) := by
  unfold NODE2
  rw [maximumf_apply, Ideal.maximumf_def,
    gather_at _ _ i j (part l j) (idx_at _ i j _ ((congrArg₂ IntOp.xori (lane_at i j) rfl).trans (part_word l j)))]
  show max (Scalar.select (IntOp.cmpi .eq (IntOp.andi (LANE (ix i j)) _) 0#32) _ _)
    (Scalar.select (IntOp.cmpi .eq (IntOp.andi (LANE (ix i (part l j))) _) 0#32) _ _) = _
  rw [lane_at, lane_at]
  have e := bit_word l j
  have e' := bit_word l (part l j)
  have hb := part_bit l j
  show max (Scalar.select (IntOp.cmpi .eq (IntOp.andi _ (BitVec.ofNat 32 (2 ^ l.val))) 0#32) _ _)
    (Scalar.select (IntOp.cmpi .eq (IntOp.andi _ (BitVec.ofNat 32 (2 ^ l.val))) 0#32) _ _) = _
  rw [e, e']
  by_cases h : j.val / 2 ^ l.val % 2 = 0
  · have h' : ¬ (part l j).val / 2 ^ l.val % 2 = 0 := fun q => (hb.1 q) h
    rw [if_pos h, if_neg h', if_pos h]
    simp [Scalar.select]
  · have h' : (part l j).val / 2 ^ l.val % 2 = 0 := hb.2 h
    rw [if_neg h, if_pos h', if_neg h]
    simp [Scalar.select]

/-- The value of a fold of one register with itself. -/
theorem node1_at (l : Fin 6) (a : FVec Ideal S16x128 .f32) (i : Fin 16) (j : Fin 128) :
    NODE1 (BitVec.ofNat 32 (2 ^ l.val)) a (ix i j) = max (a (ix i j)) (a (ix i (part l j))) := by
  unfold NODE1
  rw [maximumf_apply, Ideal.maximumf_def,
    gather_at _ _ i j (part l j) (idx_at _ i j _ ((congrArg₂ IntOp.xori (lane_at i j) rfl).trans (part_word l j)))]

/-- The tree's value at lane `j` is the largest magnitude, over the lanes near `j`, of the register
the low bits of `j` pick. -/
theorem tree_le (x : ℕ → Vec Ideal S16x128 .bf16) (i : Fin 16) (c : EReal) : ∀ (l : ℕ), l ≤ 6 → ∀ (v : ℕ) (j : Fin 128),
    v + j.val % 2 ^ l < 54 →
      (TREE x l v (ix i j) ≤ c ↔ ∀ s : Fin 128, Near l j s → LEAF (x (v + j.val % 2 ^ l)) (ix i s) ≤ c)
  | 0, _, v, j, _ => by
    unfold TREE
    simp only [Near, pow_zero, Nat.div_one, Nat.mod_one, Nat.add_zero]
    constructor
    · intro h s hs
      rw [Fin.ext hs]; exact h
    · intro h; exact h j rfl
  | l + 1, hl, v, j, hv => by
    have ih := tree_le x i c l (by omega)
    have e := low_succ ⟨l, by omega⟩ j
    have pl := part_low ⟨l, by omega⟩ j
    have ns := near_succ ⟨l, by omega⟩ j
    have n2 := fun a b => node2_at ⟨l, by omega⟩ a b i j
    have n1 := fun a => node1_at ⟨l, by omega⟩ a i j
    simp only at e pl ns n2 n1
    rw [e] at hv ⊢
    have fin : ∀ w : ℕ, w + j.val % 2 ^ l < 54 →
        (max (TREE x l w (ix i j)) (TREE x l w (ix i (part ⟨l, by omega⟩ j))) ≤ c ↔
          ∀ s : Fin 128, Near (l + 1) j s → LEAF (x (w + j.val % 2 ^ l)) (ix i s) ≤ c) := by
      intro w hw
      rw [max_le_iff, ih w j hw, ih w (part ⟨l, by omega⟩ j) (by rw [pl]; exact hw), pl]
      constructor
      · intro h s hs
        rcases (ns s).1 hs with q | q
        · exact h.1 s q
        · exact h.2 s q
      · intro h
        exact ⟨fun s q => h s ((ns s).2 (.inl q)), fun s q => h s ((ns s).2 (.inr q))⟩
    unfold TREE
    by_cases hb : j.val / 2 ^ l % 2 = 0
    · rw [if_pos hb] at hv ⊢
      simp only [Nat.add_zero] at hv ⊢
      rw [← fin v hv]
      cases hc : Nat.blt (v + 2 ^ l) 54
      · rw [cond_false, n1]
      · rw [cond_true, n2, if_pos hb]
    · rw [if_neg hb] at hv ⊢
      have hc : Nat.blt (v + 2 ^ l) 54 = true := by
        rw [Nat.blt_eq]; omega
      rw [hc, cond_true, n2, if_neg hb]
      have := fin (v + 2 ^ l) (by omega)
      rw [this]
      rw [show v + 2 ^ l + j.val % 2 ^ l = v + (j.val % 2 ^ l + 2 ^ l) by omega]

end Cert.KernelIdeal.Quant

end
-- ==== Proof.QuantScalar.lean ====
/- Constants, the scale of a group and the code of an element, as numbers. -/
module

public import proofs.«01_k».proof.Proof.QuantTree

@[expose] public section

set_option maxRecDepth 16384

noncomputable section

namespace Cert.KernelIdeal.Quant

open Idealize.ShloMosaic Idealize.ShloMosaic.TcCoe Idealize.SL.Sem
open Cert.KernelIdeal.Gen

/-- The largest magnitude of a group. -/
def AMAX (f : Fin 64 → EReal) : EReal := Finset.univ.sup fun c => max (f c) (-f c)

/-- The group's scale: a seventh of the largest magnitude, or one for a group of zeros. -/
def SCL (f : Fin 64 → EReal) : EReal := if AMAX f = 0 then 1 else Ideal.div (AMAX f) 7

/-- A value quantised by its scale. -/
def QV (x s : EReal) : EReal := min 7 (max (-8) (Ideal.liftRound Ideal.roundHalfEven (Ideal.div x s)))

/-- The constant seven. -/
theorem seven_f32 : Ideal.ofBits .f32 0x40E00000#32 = 7 := by
  rw [show (7 : EReal) = ((7 : ℝ) : EReal) by norm_cast]
  simp [Ideal.ofBits, Ideal.ieee, -EReal.coe_mul]; norm_num

/-- Minus eight as a real number. -/
theorem neg_eight_coe : (-8 : EReal) = ((-8 : ℝ) : EReal) := by
  rw [EReal.coe_neg, show ((8 : ℝ) : EReal) = 8 by norm_cast]

/-- The constant minus eight. -/
theorem neg_eight_f32 : Ideal.ofBits .f32 0xC1000000#32 = -8 := by
  rw [neg_eight_coe]
  simp [Ideal.ofBits, Ideal.ieee, -EReal.coe_mul, -EReal.coe_neg]; norm_num

/-- The constant `136`. -/
theorem shift_bf16 : Ideal.ofBits .bf16 0x4308#16 = 136 := by
  rw [show (136 : EReal) = ((136 : ℝ) : EReal) by norm_cast]
  simp [Ideal.ofBits, Ideal.ieee, -EReal.coe_mul]

/-- The constant minus infinity, the start of the maximum. -/
theorem bot_f32 : Ideal.ofBits .f32 0xFF800000#32 = ⊥ := by
  simp [Ideal.ofBits, Ideal.ieee]

/-- The largest absolute value of a group is not negative. -/
theorem amax_nonneg (f : Fin 64 → EReal) : 0 ≤ AMAX f := by
  refine le_trans ?_ (Finset.le_sup (f := fun c => max (f c) (-f c)) (Finset.mem_univ 0))
  rcases le_total 0 (f 0) with h | h
  · exact le_max_of_le_left h
  · exact le_max_of_le_right (EReal.neg_nonneg.2 h)

/-- The scale of a group is positive. -/
theorem scl_pos (f : Fin 64 → EReal) : 0 < SCL f := by
  unfold SCL
  split
  · exact zero_lt_one
  · rename_i h
    have h0 : 0 < AMAX f := lt_of_le_of_ne (amax_nonneg f) (Ne.symm h)
    have h7 : (7 : EReal) = ((7 : ℝ) : EReal) := by norm_cast
    rw [Ideal.div, if_neg (by rw [h7]; norm_cast), h7, ← EReal.coe_inv]
    exact EReal.mul_pos h0 (by norm_cast; norm_num)

/-- Multiplying by the reciprocal of a scale is dividing by it. -/
theorem mul_recip (x : EReal) {s : EReal} (h : s ≠ 0) : x * Ideal.div 1 s = Ideal.div x s := by
  rw [Ideal.div, Ideal.div, if_neg h, if_neg h, one_mul]

/-- A quantised value is one of the sixteen codes. -/
theorem qv_code (x s : EReal) : ∃ n : Fin 16, QV x s = (((n.val : ℤ) - 8 : ℤ) : ℝ) := by
  unfold QV
  have h7 : (7 : EReal) = (((7 : ℤ) : ℝ) : EReal) := by norm_cast
  have h8 : (-8 : EReal) = (((-8 : ℤ) : ℝ) : EReal) := by
    rw [neg_eight_coe]; congr 1; norm_num
  have key : ∃ m : ℤ, min 7 (max (-8) (Ideal.liftRound Ideal.roundHalfEven (Ideal.div x s))) = ((m : ℝ) : EReal)
      ∧ -8 ≤ m ∧ m ≤ 7 := by
    generalize Ideal.div x s = y
    induction y using EReal.rec with
    | bot => exact ⟨-8, by rw [Ideal.liftRound_bot, max_eq_left bot_le, min_eq_right, h8]; rw [h7, h8]; norm_cast, by omega, by omega⟩
    | top => exact ⟨7, by rw [Ideal.liftRound_top, max_eq_right le_top, min_eq_left le_top, h7], by omega, by omega⟩
    | coe r =>
      refine ⟨min 7 (max (-8) (Ideal.roundHalfEven r)), ?_, by omega, by omega⟩
      rw [Ideal.liftRound_coe, h7, h8, Int.cast_min, Int.cast_max, EReal.coe_strictMono.monotone.map_min,
        EReal.coe_strictMono.monotone.map_max]
  obtain ⟨m, e, hl, hu⟩ := key
  refine ⟨⟨(m + 8).toNat, by omega⟩, ?_⟩
  rw [e]
  congr 2
  simp only
  omega

end Cert.KernelIdeal.Quant
-- ==== Proof.QuantPoint.lean ====
/- The scale and the code at one lane of a vector. -/
module

public import proofs.«01_k».proof.Proof.QuantScalar

@[expose] public section

set_option maxRecDepth 16384

noncomputable section

namespace Cert.KernelIdeal.Quant

open Idealize.ShloMosaic Idealize.ShloMosaic.TcCoe Idealize.SL.Sem
open Cert.KernelIdeal.Gen

/-- A leaf of the tree is the absolute value of the element. -/
theorem leaf_at (x : Vec Ideal S16x128 .bf16) (y : S16x128.Idx) : (LEAF x y : EReal) = max (x y) (-(x y)) := by
  simp only [LEAF, absf_apply, Ideal.absf_def, shapeCast_self]
  rfl

/-- Lane `c` of the half of a register that lane `j` lies in. -/
def half (j : Fin 128) (c : Fin 64) : Fin 128 := ⟨64 * (j.val / 64) + c.val, by omega⟩

/-- The tree's root: the largest magnitude of each group. -/
theorem root_at (x : ℕ → Vec Ideal S16x128 .bf16) (i : Fin 16) (j : Fin 128) (h : j.val % 64 < 54) :
    (TREE x 6 0 (ix i j) : EReal) = AMAX fun c => x (j.val % 64) (ix i (half j c)) := by
  refine eq_of_forall_ge_iff fun c => ?_
  rw [tree_le x i c 6 le_rfl 0 j (by simpa using h), AMAX, Finset.sup_le_iff]
  simp only [leaf_at, Nat.zero_add]
  constructor
  · intro H d _
    refine H (half j d) ?_
    unfold Near half
    simp only
    omega
  · intro H s hs
    have e : half j ⟨s.val % 64, by omega⟩ = s := by
      unfold Near at hs
      apply Fin.ext
      simp only [half]
      omega
    have := H ⟨s.val % 64, by omega⟩ (Finset.mem_univ _)
    rwa [e] at this

/-- The scale of each group. -/
theorem scale_at (x : ℕ → Vec Ideal S16x128 .bf16) (i : Fin 16) (j : Fin 128) (h : j.val % 64 < 54) :
    (SCALE (TREE x 6 0) (ix i j) : EReal) = SCL fun c => x (j.val % 64) (ix i (half j c)) := by
  have r := root_at x i j h
  unfold SCALE SCL
  simp only [select, cmpf, broadcast, divf, Ideal.cmpf_def, Ideal.divf_def, Scalar.select, r, Ideal.ofBits_def, seven_f32,
    Ideal.ofBits_zero_f32, Ideal.ofBits_one_f32]
  by_cases e : (AMAX fun c => x (j.val % 64) (ix i (half j c))) = 0
  · simp [e, Ideal.cmp]
  · simp [e, Ideal.cmp]

/-- The lane of register group's scale: group `g` lies in lane `64 (g mod 2) + g / 2`. -/
def glane (g : Fin 128) : Fin 128 := ⟨64 * (g.val % 2) + g.val / 2, by omega⟩

/-- The lane that holds the maximum of group `g`, as a word. -/
theorem deal_word : ∀ g : Fin 128,
    IntOp.addi (IntOp.muli 64#32 (IntOp.andi (BitVec.ofNat 32 g.val) 1#32)) (IntOp.shrsi .vector (BitVec.ofNat 32 g.val) 1#32)
      = BitVec.ofNat 32 (glane g).val := by
  decide +kernel

/-- The kernel's vector of lane numbers that puts the groups in order, at one lane. -/
theorem deal_at (i : Fin 16) (g : Fin 128) : IDX k1_pay1 (ix i g) = BitVec.ofNat 32 (glane g).val := by
  refine idx_at _ i g _ ?_
  rw [← deal_word g]
  have l := lane_at i g
  unfold LANE at l
  simp only [k1_pay1, addi, muli, andi, shrsi, broadcast, l]

/-- The lane of lane `j`'s group's scale in register `v`. -/
def vlane (v : Fin 54) (j : Fin 128) : Fin 128 := ⟨64 * (j.val / 64) + v.val, by omega⟩

/-- The half of the vector a lane lies in, as a word. -/
theorem vlane_word : ∀ j : Fin 128, IntOp.andi (BitVec.ofNat 32 j.val) 64#32 = BitVec.ofNat 32 (64 * (j.val / 64)) := by
  decide +kernel

/-- The kernel's vector of lane numbers that spreads scales over vector `v`, at one lane. -/
theorem group_at (i : Fin 16) (v : Fin 54) (j : Fin 128) : GRP v.val (ix i j) = BitVec.ofNat 32 (vlane v j).val := by
  refine idx_at _ i j _ ?_
  simp only [addi, andi, broadcast, lane_at, vlane_word, vlane]
  rw [IntOp.addi, ← BitVec.ofNat_add]

/-- A quantised value. -/
theorem q_at (x : Vec Ideal S16x128 .bf16) (s : FVec Ideal S16x128 .f32) (v : Fin 54) (i : Fin 16) (j : Fin 128)
    (hs : (s (ix i (vlane v j)) : EReal) ≠ 0) :
    (Q x s v.val (ix i j) : EReal) = QV (x (ix i j)) (s (ix i (vlane v j))) := by
  have hg : ∀ y : FVec Ideal S16x128 .f32, dynamicGather 1 y (GRP v.val) (ix i j) = y (ix i (vlane v j)) :=
    fun y => gather_at y _ i j _ (group_at i v j)
  unfold Q QV
  simp only [truncf, minimumf, maximumf, roundeven, mulf, extf, broadcast, hg, shapeCast_self, divf, Ideal.divf_def,
    Ideal.truncf_def, Ideal.extf_def, Ideal.minimumf_def, Ideal.maximumf_def, Ideal.roundeven_def, Ideal.mulf_def,
    Ideal.ofBits_def, seven_f32, neg_eight_f32, Ideal.ofBits_one_f32]
  rw [mul_recip _ hs]

/-- A dequantised value. -/
theorem xdq_at (x : Vec Ideal S16x128 .bf16) (s : FVec Ideal S16x128 .f32) (v : Fin 54) (i : Fin 16) (j : Fin 128)
    (hs : (s (ix i (vlane v j)) : EReal) ≠ 0) :
    (XDQ x s v.val (ix i j) : EReal) = QV (x (ix i j)) (s (ix i (vlane v j))) * s (ix i (vlane v j)) := by
  have hg : ∀ y : FVec Ideal S16x128 .f32, dynamicGather 1 y (GRP v.val) (ix i j) = y (ix i (vlane v j)) :=
    fun y => gather_at y _ i j _ (group_at i v j)
  unfold XDQ
  simp only [mulf, truncf, hg, Ideal.truncf_def, Ideal.mulf_def, q_at x s v i j hs]

/-- The scales in the groups' order. -/
theorem scales_at (s : FVec Ideal S16x128 .f32) (i : Fin 16) (g : Fin 108) (y : S16x108.Idx)
    (h0 : (y 0).val = i.val) (h1 : (y 1).val = g.val) :
    SCALES s y = s (ix i (glane ⟨g.val, by omega⟩)) := by
  unfold SCALES extractStridedSlice
  rw [← gather_at s _ i ⟨g.val, by omega⟩ _ (deal_at i ⟨g.val, by omega⟩)]
  congr 1
  funext a
  fin_cases a
  · exact Fin.ext (by simpa [ix] using h0)
  · exact Fin.ext (by simpa [ix] using h1)

end Cert.KernelIdeal.Quant
-- ==== Proof.QuantCodes.lean ====
/- The bits of a code, and half words of a word. -/
module

public import proofs.«01_k».proof.Proof.QuantPoint

@[expose] public section

set_option maxRecDepth 16384

noncomputable section

namespace Cert.KernelIdeal.Quant

open Idealize.ShloMosaic Idealize.ShloMosaic.TcCoe Idealize.SL.Sem
open Cert.KernelIdeal.Gen

/-- A word built by setting bits one by one has a bit set exactly where one of the steps set it. -/
theorem fold_bits {w : ℕ} (c : Fin w → Bool) (q : Fin w) : ∀ (l : List (Fin w)) (acc : BitVec w),
    (l.foldl (fun acc r => if c r then acc ||| BitVec.twoPow w r.val else acc) acc).getLsbD q.val
      = (acc.getLsbD q.val || l.any fun r => c r && decide (r = q))
  | [], acc => by simp
  | r :: l, acc => by
    rw [List.foldl_cons, fold_bits c q l, List.any_cons, ← Bool.or_assoc]
    congr 1
    by_cases h : c r
    · rw [if_pos h, BitVec.getLsbD_or, h, Bool.true_and]
      congr 1
      rw [BitVec.getLsbD_twoPow]
      simp only [Fin.ext_iff, r.isLt, decide_true, Bool.true_and]
    · rw [if_neg h]
      simp [h]

/-- A bit of a bitcast's element is the bit of the source at the same place in the column. -/
theorem bitcast_bit {v : ℕ} {s : Shape} (t : Shape) (w : ℕ) (x : s.Idx → BitVec v) (h : s.Bitcasts v t w) (j : t.Idx)
    (q : Fin w) (k : s.Idx)
    (hk : ∀ a, (k a).val = if a.val + 2 = s.rank then (t.row j * w + q.val) / v else (j (a.cast h.1.symm)).val) :
    (bitcast t w x h j).getLsbD q.val = (x k).getLsbD ((t.row j * w + q.val) % v) := by
  unfold bitcast
  simp only
  rw [fold_bits (w := w) _ q, show (0 : BitVec w).getLsbD q.val = false by simp, Bool.false_or]
  rw [Bool.eq_iff_iff, List.any_eq_true]
  constructor
  · rintro ⟨r, -, hr⟩
    rw [Bool.and_eq_true, decide_eq_true_eq] at hr
    obtain ⟨hr, rfl⟩ := hr
    convert hr using 3
    funext a
    apply Fin.ext
    rw [hk a]
    split <;> rfl
  · intro hr
    refine ⟨q, List.mem_finRange q, ?_⟩
    rw [Bool.and_eq_true, decide_eq_true_eq]
    refine ⟨?_, rfl⟩
    convert hr using 3
    funext a
    apply Fin.ext
    rw [hk a]
    split <;> rfl

/-- Half `b` of a word. -/
def hw (b : Fin 2) (w : BitVec 32) : BitVec 16 := w.extractLsb' (16 * b.val) 16

/-- A half word of an exclusive or is the exclusive or of the half words. -/
theorem hw_xor (b : Fin 2) (x y : BitVec 32) : hw b (x ^^^ y) = hw b x ^^^ hw b y := by
  unfold hw; rw [BitVec.extractLsb'_xor]

/-- A half word of a bitwise and is the bitwise and of the half words. -/
theorem hw_and (b : Fin 2) (x y : BitVec 32) : hw b (x &&& y) = hw b x &&& hw b y := by
  unfold hw; rw [BitVec.extractLsb'_and]

/-- Each half of the nibble mask is `15`. -/
theorem hw_mask : ∀ b : Fin 2, hw b 983055#32 = 15#16 := by decide
/-- Each half of the byte mask is `255`. -/
theorem hw_byte : ∀ b : Fin 2, hw b 16711935#32 = 255#16 := by decide
/-- Each half of the word that flips the two sign bits is `136`. -/
theorem hw_flip : ∀ b : Fin 2, hw b 8913032#32 = 136#16 := by decide

/-- A masked shift by four bits acts on each half word alone. -/
theorem hw_shl (b : Fin 2) (x : BitVec 32) : hw b ((x &&& 983055#32) <<< 4) = (hw b x &&& 15#16) <<< 4 := by
  apply BitVec.eq_of_getLsbD_eq
  intro q hq
  unfold hw
  rw [BitVec.getLsbD_extractLsb', BitVec.getLsbD_shiftLeft, BitVec.getLsbD_shiftLeft, BitVec.getLsbD_and,
    BitVec.getLsbD_and, BitVec.getLsbD_extractLsb']
  fin_cases b <;> interval_cases q <;> simp

/-- Rows `2 i` and `2 i + 1` of a column are the halves of row `i`'s word. -/
theorem pack_half (x : IVec S16x128 16) (i : Fin 8) (j : Fin 128) (b : Fin 2) :
    hw b (bitcast S8x128 32 x bitcasts_S16x128_w16_S8x128_w32 (ix8 i j)) = x (ix ⟨2 * i.val + b.val, by omega⟩ j) := by
  apply BitVec.eq_of_getLsbD_eq
  intro q hq
  have hb := b.isLt
  have row : S8x128.row (ix8 i j) = i.val := rfl
  unfold hw
  rw [BitVec.getLsbD_extractLsb', decide_eq_true hq, Bool.true_and]
  rw [bitcast_bit S8x128 32 x bitcasts_S16x128_w16_S8x128_w32 (ix8 i j) ⟨16 * b.val + q, by omega⟩
    (ix ⟨2 * i.val + b.val, by omega⟩ j)]
  · congr 1
    rw [row]
    simp only
    omega
  · intro a
    rw [row]
    fin_cases a
    · show 2 * i.val + b.val = (i.val * 32 + (16 * b.val + q)) / 16
      omega
    · rfl

/-- The word read as two rows of half words: row `2 i + b` is half `b` of row `i`. -/
theorem unpack_half (w : IVec S8x128 32) (i : Fin 8) (j : Fin 128) (b : Fin 2) :
    bitcast S16x128 16 w bitcasts_S8x128_w32_S16x128_w16 (ix ⟨2 * i.val + b.val, by omega⟩ j) = hw b (w (ix8 i j)) := by
  apply BitVec.eq_of_getLsbD_eq
  intro q hq
  have hb := b.isLt
  have row : S16x128.row (ix ⟨2 * i.val + b.val, by omega⟩ j) = 2 * i.val + b.val := rfl
  unfold hw
  rw [BitVec.getLsbD_extractLsb', decide_eq_true hq, Bool.true_and]
  rw [bitcast_bit S16x128 16 w bitcasts_S8x128_w32_S16x128_w16 (ix ⟨2 * i.val + b.val, by omega⟩ j) ⟨q, hq⟩ (ix8 i j)]
  · congr 1
    rw [row]
    simp only
    omega
  · intro a
    rw [row]
    fin_cases a
    · show i.val = ((2 * i.val + b.val) * 16 + q) / 32
      omega
    · rfl

/-- A code as a 16-bit number, before the shift is taken off. -/
theorem code_word : ∀ n : Fin 16, BitVec.ofInt 16 ((n.val : ℤ) - 8 + 136) + 17024#16 = BitVec.ofNat 16 (0x4300 + n.val) := by
  decide

/-- The code of a quantised value. -/
def CODE (x : EReal) : BitVec 16 := BitVec.ofInt 16 (Ideal.toIntClamped (-(2 ^ 15 : ℕ)) ((2 ^ 15 : ℕ) - 1) (x + 136)) + 17024#16

/-- The half word of the code `n - 8` is `0x4300 + n`. -/
theorem code_at (n : Fin 16) : CODE (((n.val : ℤ) - 8 : ℤ) : ℝ) = BitVec.ofNat 16 (0x4300 + n.val) := by
  rw [← code_word n]
  unfold CODE
  congr 2
  rw [show (136 : EReal) = (((136 : ℤ) : ℝ) : EReal) by norm_cast, ← EReal.coe_add, ← Int.cast_add]
  have hn := n.isLt
  have h0 : (0 : ℝ) ≤ (((n.val : ℤ) - 8 + 136 : ℤ) : ℝ) := by
    exact_mod_cast (by omega : (0 : ℤ) ≤ (n.val : ℤ) - 8 + 136)
  rw [Ideal.toIntClamped_coe, if_pos h0, Int.floor_intCast]
  push_cast
  omega

/-- The packed word's half. -/
theorem packed_at (x : Vec Ideal S16x128 .bf16) (s : FVec Ideal S16x128 .f32) (v : Fin 54) (i : Fin 8) (j : Fin 128) (b : Fin 2)
    (hs : (s (ix ⟨2 * i.val + b.val, by omega⟩ (vlane v j)) : EReal) ≠ 0) :
    hw b (PACK x s v.val (ix8 i j))
      = CODE (QV (x (ix ⟨2 * i.val + b.val, by omega⟩ j)) (s (ix ⟨2 * i.val + b.val, by omega⟩ (vlane v j)))) := by
  unfold PACK
  rw [pack_half, ← q_at _ _ _ _ _ hs]
  simp only [addi, fptosi, addf, broadcast, Ideal.addf_def, Ideal.ofBits_def, shift_bf16]
  rfl

end Cert.KernelIdeal.Quant
-- ==== Proof.QuantPair.lean ====
/- Two neighbouring codes joined in a byte, lane by lane. -/
module

public import proofs.«01_k».proof.Proof.QuantCodes

@[expose] public section

set_option maxRecDepth 16384

noncomputable section

namespace Cert.KernelIdeal.Quant

open Idealize.ShloMosaic Idealize.ShloMosaic.TcCoe Idealize.SL.Sem
open Cert.KernelIdeal.Gen

/-- The lanes in the order a gather takes the pairs: the first register's even lanes, then the second's odd ones. -/
def dlane (j : Fin 128) : Fin 128 := if h : j.val < 64 then ⟨2 * j.val, by omega⟩ else ⟨2 * j.val - 127, by omega⟩

/-- The lanes of a pair. -/
def plane (j : Fin 128) (e : Fin 2) : Fin 128 := ⟨2 * (j.val % 64) + e.val, by omega⟩

/-- The lane number, at one lane of eight rows. -/
theorem lane8_at (i : Fin 8) (j : Fin 128) :
    iota .tc S8x128 32 [1] iota_S8x128_d1_w32 (ix8 i j) = BitVec.ofNat 32 j.val := by
  simp [iota, ix8]

/-- The lane that the exchange of even and odd lanes reads, as a word. -/
theorem pair_word : ∀ j : Fin 128,
    Scalar.select (IntOp.cmpi .slt (BitVec.ofNat 32 j.val) 64#32) (IntOp.muli 2#32 (BitVec.ofNat 32 j.val))
        (IntOp.subi (IntOp.muli 2#32 (BitVec.ofNat 32 j.val)) 127#32) = BitVec.ofNat 32 (dlane j).val := by
  decide +kernel

/-- The kernel's vector of lane numbers for that exchange, at one lane. -/
theorem pairs_at (i : Fin 8) (j : Fin 128) : IDX8 k1_pay3 (ix8 i j) = BitVec.ofNat 32 (dlane j).val := by
  refine idx8_at _ i j _ ?_
  have l := lane8_at i j
  rw [← pair_word j]
  simp only [k1_pay3, select, cmpi, muli, subi, broadcast, l]

/-- The lane read is even in the first half and odd in the second. -/
theorem even_word : ∀ j : Fin 128,
    IntOp.cmpi .eq (IntOp.andi (BitVec.ofNat 32 (dlane j).val) 1#32) 0#32 = if j.val < 64 then 1#1 else 0#1 := by
  decide +kernel

/-- The kernel's mask of even lanes, at the lane read. -/
theorem even_at (i : Fin 8) (j : Fin 128) : k1_pay2 (ix8 i (dlane j)) = if j.val < 64 then 1#1 else 0#1 := by
  have l := lane8_at i (dlane j)
  rw [← even_word j]
  simp only [k1_pay2, cmpi, andi, broadcast, l]

/-- A rotation of lanes, at one lane. -/
theorem rotate_at (n : BitVec 32) (m : ℕ) (hn : n.toNat = m) (x : IVec S8x128 32) (i : Fin 8) (j k : Fin 128)
    (h : k.val = (j.val + 128 - m % 128) % 128) :
    dynamicRotate 1 n none x rotates_S8x128_d1 (ix8 i j) = x (ix8 i k) := by
  unfold dynamicRotate
  refine congrArg x (funext fun a => ?_)
  fin_cases a
  · rfl
  · simp only [ix8, hn]
    exact Fin.ext h.symm

/-- A byte of codes: the even lane's code in its low nibble, the odd lane's in its high one. -/
def BYTE (lo hi : BitVec 16) : BitVec 16 := ((lo ^^^ ((hi &&& 15#16) <<< 4)) &&& 255#16) ^^^ 136#16

/-- Two vectors of codes joined, at one lane: the byte made of two neighbouring codes. -/
theorem pair_at (a b : IVec S8x128 32) (i : Fin 8) (j : Fin 128) (β : Fin 2) :
    hw β (PAIR a b (ix8 i j))
      = BYTE (hw β ((if j.val < 64 then a else b) (ix8 i (plane j 0))))
          (hw β ((if j.val < 64 then a else b) (ix8 i (plane j 1)))) := by
  have g : ∀ y : IVec S8x128 32, dynamicGather 1 y (IDX8 k1_pay3) (ix8 i j) = y (ix8 i (dlane j)) :=
    fun y => gather8_at y _ i j _ (pairs_at i j)
  have e := even_at i j
  have hj := j.isLt
  unfold PAIR
  simp only [xori, andi, broadcast, g, shli, select, e]
  rw [IntOp.xori, hw_xor, hw_flip, IntOp.andi, hw_and, hw_byte, IntOp.xori, hw_xor, IntOp.andi,
    show ∀ y, IntOp.shli .vector y 4#32 = y <<< 4 from fun y => by simp [IntOp.shli], hw_shl]
  unfold BYTE
  by_cases h : j.val < 64
  · simp only [h, if_true, Scalar.select, show ((1#1 : BitVec 1) = 1) = True by decide]
    rw [rotate_at 127#32 127 rfl a i (dlane j) (plane j 1) (by simp [dlane, plane, h]; omega),
      show dlane j = plane j 0 from Fin.ext (by simp [dlane, plane, h]; omega)]
  · simp only [h, if_false, Scalar.select, show ((0#1 : BitVec 1) = 1) = False by decide]
    rw [rotate_at 1#32 1 rfl b i (dlane j) (plane j 0) (by simp [dlane, plane, h]; omega),
      show dlane j = plane j 1 from Fin.ext (by simp [dlane, plane, h]; omega)]

/-- The stored tile of codes. -/
theorem codes_at (p q : IVec S8x128 32) (y : S32x128.Idx) (r : Fin 2) (i : Fin 8) (β : Fin 2) (j : Fin 128)
    (h0 : (y 0).val = 16 * r.val + (2 * i.val + β.val)) (h1 : (y 1).val = j.val) :
    k1_pay6 p q y = (hw β ((if r.val = 0 then p else q) (ix8 i j))).setWidth 8 := by
  have hi := i.isLt
  have hβ := β.isLt
  unfold k1_pay6
  simp only [trunci]
  congr 1
  fin_cases r
  · rw [concatenate_pair_apply_left (t := S32x128) (s₁ := S16x128) (s₂ := S16x128) 0 _ _ _ y rfl
      (ix ⟨2 * i.val + β.val, by omega⟩ j) (by
        intro a
        fin_cases a
        · simpa [ix] using h0.symm
        · simpa [ix] using h1.symm)]
    exact unpack_half p i j β
  · rw [concatenate_pair_apply_right (t := S32x128) (s₁ := S16x128) (s₂ := S16x128) 0 _ _ _ y rfl rfl
      (ix ⟨2 * i.val + β.val, by omega⟩ j) (by
        intro a ha
        fin_cases a
        · exact absurd rfl ha
        · simpa [ix] using h1.symm) (by
        simp [ix, h0]; omega)]
    exact unpack_half q i j β

/-- The byte of two quantised values. -/
theorem byte_code : ∀ m n : Fin 16,
    (BYTE (BitVec.ofNat 16 (0x4300 + m.val)) (BitVec.ofNat 16 (0x4300 + n.val))).setWidth 8
      = ((BitVec.ofInt 32 ((m.val : ℤ) - 8) &&& 15#32) ||| ((BitVec.ofInt 32 ((n.val : ℤ) - 8) &&& 15#32) <<< 4)).setWidth 8 := by
  decide +kernel

/-- Where an element of a stored tile goes. -/
theorem emb_val {s : Shape} (off size : Fin s.rank → ℕ) (inb : ∀ a, off a + size a ≤ s.size a)
    (x : (Rect.unit (s := s) off size inb).shape.Idx) (a : Fin s.rank) :
    ((Rect.unit (s := s) off size inb).emb x a).val = off a + (x a).val := by
  simp [Rect.emb_apply]

end Cert.KernelIdeal.Quant
-- ==== Proof.DequantPoint.lean ====
/- The signed nibbles of a word of packed weights, lane by lane. -/
module

public import proofs.«01_k».proof.Proof.QuantPair
public import proofs.«01_k».proof.Proof.KernelIdealRun.Region0

@[expose] public section

set_option maxRecDepth 16384

noncomputable section

namespace Cert.KernelIdeal.Dequant

open Idealize.ShloMosaic Idealize.ShloMosaic.TcCoe Idealize.SL.Sem
open Cert.KernelIdeal.Gen Cert.KernelIdeal.Quant

/-- The index at row `i` and lane `j` of a 32-row register. -/
def ib (i : Fin 32) (j : Fin 128) : S32x128.Idx := fun
  | ⟨0, _⟩ => i
  | ⟨1, _⟩ => j

/-- An index of a 32 by 128 tile is the pair of its two coordinates. -/
theorem ib_eta (x : S32x128.Idx) : x = ib (x 0) (x 1) := by
  funext a
  fin_cases a <;> rfl

/-- Byte `b` of a word. -/
def byte (b : Fin 4) (w : BitVec 32) : BitVec 8 := w.extractLsb' (8 * b.val) 8

/-- A byte of a bitwise and is the bitwise and of the bytes. -/
theorem byte_and (b : Fin 4) (x y : BitVec 32) : byte b (x &&& y) = byte b x &&& byte b y := by
  unfold byte; rw [BitVec.extractLsb'_and]

/-- Each byte of the word mask keeps the high four bits. -/
theorem byte_mask : ∀ b : Fin 4, byte b 4042322160#32 = 240#8 := by decide

/-- A masked shift of the word by four bits shifts each byte by four bits, without leaks between bytes. -/
theorem byte_shl (b : Fin 4) (x : BitVec 32) : byte b ((x <<< 4) &&& 4042322160#32) = (byte b x <<< 4) &&& 240#8 := by
  rw [byte_and, byte_mask]
  apply BitVec.eq_of_getLsbD_eq
  intro q hq
  unfold byte
  rw [BitVec.getLsbD_and, BitVec.getLsbD_and, BitVec.getLsbD_extractLsb', BitVec.getLsbD_shiftLeft,
    BitVec.getLsbD_shiftLeft, BitVec.getLsbD_extractLsb']
  fin_cases b <;> interval_cases q <;> simp

/-- Rows `4 i` to `4 i + 3` of a column are the bytes of row `i`'s word. -/
theorem pack_byte (x : IVec S32x128 8) (i : Fin 8) (j : Fin 128) (b : Fin 4) :
    byte b (bitcast S8x128 32 x bitcasts_S32x128_w8_S8x128_w32 (ix8 i j)) = x (ib ⟨4 * i.val + b.val, by omega⟩ j) := by
  apply BitVec.eq_of_getLsbD_eq
  intro q hq
  have hb := b.isLt
  have row : S8x128.row (ix8 i j) = i.val := rfl
  unfold byte
  rw [BitVec.getLsbD_extractLsb', decide_eq_true hq, Bool.true_and]
  rw [bitcast_bit S8x128 32 x bitcasts_S32x128_w8_S8x128_w32 (ix8 i j) ⟨8 * b.val + q, by omega⟩
    (ib ⟨4 * i.val + b.val, by omega⟩ j)]
  · congr 1
    rw [row]
    simp only
    omega
  · intro a
    rw [row]
    fin_cases a
    · show 4 * i.val + b.val = (i.val * 32 + (8 * b.val + q)) / 8
      omega
    · rfl

/-- The word read as four rows of bytes: row `4 i + b` is byte `b` of row `i`. -/
theorem unpack_byte (w : IVec S8x128 32) (i : Fin 8) (j : Fin 128) (b : Fin 4) :
    bitcast S32x128 8 w bitcasts_S8x128_w32_S32x128_w8 (ib ⟨4 * i.val + b.val, by omega⟩ j) = byte b (w (ix8 i j)) := by
  apply BitVec.eq_of_getLsbD_eq
  intro q hq
  have hb := b.isLt
  have row : S32x128.row (ib ⟨4 * i.val + b.val, by omega⟩ j) = 4 * i.val + b.val := rfl
  unfold byte
  rw [BitVec.getLsbD_extractLsb', decide_eq_true hq, Bool.true_and]
  rw [bitcast_bit S32x128 8 w bitcasts_S8x128_w32_S32x128_w8 (ib ⟨4 * i.val + b.val, by omega⟩ j) ⟨q, hq⟩ (ix8 i j)]
  · congr 1
    rw [row]
    simp only
    omega
  · intro a
    rw [row]
    fin_cases a
    · show i.val = ((4 * i.val + b.val) * 8 + q) / 32
      omega
    · rfl

/-- The signed nibble of a packed byte that belongs to column `n`: the low one of an even column, the high one of
an odd one. -/
def NIB (p : BitVec 8) (n : ℕ) : ℤ := (if n % 2 = 0 then p.extractLsb' 0 4 else p.extractLsb' 4 4).toInt

/-- The low nibble moved to the top of a byte is sixteen times the signed nibble. -/
theorem low_nib : ∀ p : BitVec 8, ((p <<< 4) &&& 240#8).toInt = 16 * (p.extractLsb' 0 4).toInt := by decide +kernel

/-- The high nibble left at the top of a byte is sixteen times the signed nibble. -/
theorem high_nib : ∀ p : BitVec 8, (p &&& 240#8).toInt = 16 * (p.extractLsb' 4 4).toInt := by decide +kernel

/-- The lane a word is taken from: the half's offset and half the lane's number. -/
theorem lanes_word : ∀ j : Fin 128, ∀ h : Fin 2,
    IntOp.addi (IntOp.shrsi .vector (BitVec.ofNat 32 j.val) 1#32) (if h.val = 0 then 0#32 else 64#32)
      = BitVec.ofNat 32 (64 * h.val + j.val / 2) := by
  decide +kernel

/-- The comparison that tells even lanes from odd lanes. -/
theorem parity_word : ∀ j : Fin 128,
    IntOp.cmpi .eq (IntOp.andi (BitVec.ofNat 32 j.val) 1#32) 0#32 = if j.val % 2 = 0 then 1#1 else 0#1 := by
  decide +kernel

/-- The row of scales spread over the tile, at one element. -/
theorem scale_row (s : Vec Ideal S1x1x128 .f32) (i : Fin 32) (j : Fin 128) :
    (broadcastTo S32x128 (k0_pay4 s) broadcasts_S1x128_S32x128 (ib i j) : EReal) = s (ix3 0 0 j) := by
  pointwise [k0_pay4]
  rfl

/-- The words after the exchange of lanes: lane `j` holds the word of lane `64 h + j / 2`. -/
theorem tile_word (h : Fin 2) (w : Vec Ideal S32x128 .i8) (i : Fin 8) (j : Fin 128) :
    dynamicGather 1 (bitcast S8x128 32 w bitcasts_S32x128_w8_S8x128_w32)
        (IDX8 (addi (shrsi (iota .tc S8x128 32 [1] iota_S8x128_d1_w32) (broadcast S8x128 1#32))
          (broadcast S8x128 (if h.val = 0 then 0#32 else 64#32)))) (ix8 i j)
      = bitcast S8x128 32 w bitcasts_S32x128_w8_S8x128_w32 (ix8 i ⟨64 * h.val + j.val / 2, by omega⟩) := by
  refine gather8_at _ _ i j _ (idx8_at _ i j _ ?_)
  have l := lane8_at i j
  simp only [addi, shrsi, broadcast, l]
  exact lanes_word j h

/-- The nibble of a word's byte that an even lane keeps after a shift and an odd lane keeps as it is, sixteen times. -/
theorem nib_word (b : Fin 4) (j : Fin 128) (W : BitVec 32) :
    (byte b (IntOp.andi (Scalar.select (IntOp.cmpi .eq (IntOp.andi (BitVec.ofNat 32 j.val) 1#32) 0#32)
        (IntOp.shli .vector W 4#32) W) 4042322160#32)).toInt = 16 * NIB (byte b W) j.val := by
  rw [parity_word]
  unfold NIB
  by_cases e : j.val % 2 = 0
  · rw [if_pos e, if_pos e, ← low_nib, ← byte_shl]
    rfl
  · rw [if_neg e, if_neg e, ← high_nib, ← byte_mask b, ← byte_and]
    rfl

/-- A stored tile at a row and a lane. -/
theorem tile_at (h : Fin 2) (s : Vec Ideal S1x1x128 .f32) (w : Vec Ideal S32x128 .i8) (i : Fin 8) (b : Fin 4) (j : Fin 128) :
    (TILE (if h.val = 0 then 0#32 else 64#32) s w (ib ⟨4 * i.val + b.val, by omega⟩ j) : EReal)
      = ((NIB (w (ib ⟨4 * i.val + b.val, by omega⟩ ⟨64 * h.val + j.val / 2, by omega⟩)) j.val : ℤ) : ℝ) * s (ix3 0 0 j) := by
  have e := scale_row s ⟨4 * i.val + b.val, by omega⟩ j
  have g := tile_word h w i j
  have l := lane8_at i j
  unfold IDX8 at g
  unfold TILE
  simp only
  rw [mulf_apply, e, mulf_apply]
  unfold sitofp
  rw [unpack_byte]
  have n := nib_word b j (bitcast S8x128 32 w bitcasts_S32x128_w8_S8x128_w32 (ix8 i ⟨64 * h.val + j.val / 2, by omega⟩))
  rw [pack_byte] at n
  simp only [andi, select, cmpi, shli, broadcast, l]
  rw [g]
  refine congrArg (· * s (ix3 0 0 j)) ?_
  show (((byte b _).toInt : ℝ) : EReal) * Ideal.ofBits .bf16 0x3D80#16 = _
  rw [n, Ideal.ofBits_sixteenth_bf16, ← EReal.coe_mul]
  congr 1
  push_cast
  ring

end Cert.KernelIdeal.Dequant
-- ==== Proof.DequantFinal.lean ====
/- The array the dequantisation call leaves. -/
module

public import proofs.«01_k».proof.Proof.DequantPoint

@[expose] public section

set_option maxRecDepth 16384

noncomputable section

namespace Cert.KernelIdeal.Dequant

open Idealize.ShloMosaic Idealize.ShloMosaic.TcCoe Idealize.SL.Sem
open Cert.KernelIdeal.Gen Cert.KernelIdeal.Quant

/-- The nibble depends on the parity of the column alone. -/
theorem nib_parity (p : BitVec 8) (n m : ℕ) (h : n % 2 = m % 2) : NIB p n = NIB p m := by
  unfold NIB
  rw [h]

/-- The block of dequantised weights. -/
def OUTW (x0 : Vec Ideal S256x2560 .i8) (x1 : Vec Ideal S1x4x5120 .f32) : Vec Ideal S256x5120 .bf16 := fun y =>
  have h0 : (y 0).val < 256 := (y 0).isLt
  have h1 : (y 1).val < 5120 := (y 1).isLt
  ((NIB (x0 (ix2 (y 0) ⟨(y 1).val / 2, by omega⟩)) (y 1).val : ℤ) : ℝ) * x1 (ix3 0 ⟨(y 0).val / 64, by omega⟩ (y 1))

/-- An element of a tile the body writes is the element of the block of dequantised weights it lands on. -/
theorem tile_point (x0 : Vec Ideal S256x2560 .i8) (x1 : Vec Ideal S1x4x5120 .f32) (j : ℕ) (hj : j < 320) (r : Fin 32) (l : Fin 128)
    (y : S256x5120.Idx) (h0 : (y 0).val = row j + r.val) (h1 : (y 1).val = col j + l.val) :
    (TILE (lane0 j) (View.ld x1 (Rect.unit (s := S1x4x5120) ![0, j / 80, col j] S1x1x128.size (inb_s j hj)))
      (View.ld x0 (Rect.unit (s := S256x2560) ![row j, pcol j] S32x128.size (inb_w j hj))) (ib r l) : EReal) = OUTW x0 x1 y := by
  have hr := r.isLt
  have e := tile_at ⟨j % 80 / 2 % 2, by omega⟩ (View.ld x1 (Rect.unit (s := S1x4x5120) ![0, j / 80, col j] S1x1x128.size (inb_s j hj)))
    (View.ld x0 (Rect.unit (s := S256x2560) ![row j, pcol j] S32x128.size (inb_w j hj))) ⟨r.val / 4, by omega⟩ ⟨r.val % 4, by omega⟩ l
  have er : (⟨4 * (r.val / 4) + r.val % 4, by omega⟩ : Fin 32) = r := Fin.ext (by simp only; omega)
  simp only [er] at e
  refine e.trans ?_
  unfold OUTW
  refine congrArg₂ (· * ·) ?_ ?_
  · congr 2
    rw [nib_parity _ l.val (y 1).val (by rw [h1]; simp only [col]; omega)]
    congr 1
    refine View.ld_unit_apply_of _ _ _ _ _ _ fun a => ?_
    fin_cases a
    · show (y 0).val = row j + r.val
      exact h0
    · show (y 1).val / 2 = pcol j + (64 * (j % 80 / 2 % 2) + l.val / 2)
      rw [h1]
      simp only [col, pcol]
      omega
  · refine View.ld_unit_apply_of _ _ _ _ _ _ fun a => ?_
    fin_cases a
    · rfl
    · show (y 0).val / 64 = j / 80 + 0
      rw [h0]
      simp only [row]
      omega
    · show (y 1).val = col j + l.val
      exact h1

/-- The block the body leaves. -/
theorem out_weights (x0 : Vec Ideal S256x2560 .i8) (x1 : Vec Ideal S1x4x5120 .f32) : out0_2 x0 x1 = OUTW x0 x1 := by
  funext y
  refine View.canon_apply_of_pieces _ _ (fun p hp x => ?_) y (cover0_2 x0 x1 y)
  obtain ⟨j, hj, rfl⟩ := of_tile_mem x0 x1 _ _ p hp
  have e := tile_point x0 x1 j hj (x 0) (x 1) ((tile x0 x1 j hj).1.emb x) (emb_val _ _ (inb_out j hj) x 0) (emb_val _ _ (inb_out j hj) x 1)
  rwa [← ib_eta x] at e

/-- The dequantised weights of the whole array. -/
def ALLW (P : Vec Ideal S6912x2560 .i8) (S : Vec Ideal S27x4x5120 .f32) : Vec Ideal S6912x5120 .bf16 := fun y =>
  have h0 : (y 0).val < 6912 := (y 0).isLt
  have h1 : (y 1).val < 5120 := (y 1).isLt
  ((NIB (P (ix2 (y 0) ⟨(y 1).val / 2, by omega⟩)) (y 1).val : ℤ) : ℝ)
    * S (ix3 ⟨(y 0).val / 256, by omega⟩ ⟨(y 0).val / 64 % 4, by omega⟩ (y 1))

/-- The block each window of the dequantisation call takes at a point of the grid. -/
theorem idx_val0 : ∀ t : Fin cfg0.N, win0_0.index t = ![t.val, 0] ∧ win0_1.index t = ![t.val, 0, 0]
    ∧ win0_2.index t = ![t.val, 0] :=
  (by decide +kernel : ∀ t : Fin grid0.N, _)

variable (V : (c : Dev nD) → (b : Ref sig .tc) → Buf (Elt Ideal) ((c : Thread nD τ).loc b))

/-- The block of packed weights at a point holds the array's rows from 256 times the point on. -/
theorem pblk_at (c : Dev nD) (t : Fin cfg0.N) (r : Fin 256) (j : Fin 2560) (R : Fin 6912) (h : R.val = 256 * t.val + r.val) :
    iblk0 V c 0 t (ix2 r j) = V c main_arg1 (ix2 R j) := by
  blk_point [iblk0, idx_val0 t]

/-- The block of weight scales at a point is the array's slab of that number. -/
theorem sblk_at (c : Dev nD) (t : Fin cfg0.N) (g : Fin 4) (j : Fin 5120) (T : Fin 27) (h : T.val = t.val) :
    iblk0 V c 1 t (ix3 0 g j) = V c main_v0 (ix3 T g j) := by
  blk_point [iblk0, idx_val0 t]

/-- The block of dequantised weights at a point is the matching part of the whole array's. -/
theorem point_weights (c : Dev nD) (t : Fin cfg0.N) (y : S256x5120.Idx) (z : S6912x5120.Idx)
    (h0 : (z 0).val = 256 * t.val + (y 0).val) (h1 : (z 1).val = (y 1).val) :
    OUTW (iblk0 V c 0 t) (iblk0 V c 1 t) y = ALLW (V c main_arg1) (V c main_v0) z := by
  have hy : (y 0).val < 256 := (y 0).isLt
  have hz : (z 0).val < 6912 := (z 0).isLt
  have e1 : z 1 = y 1 := Fin.ext h1
  unfold OUTW ALLW
  simp only
  refine congrArg₂ (· * ·) ?_ ?_
  · rw [pblk_at V c t (y 0) _ (z 0) h0]
    simp only [h1]
  · refine (sblk_at V c t _ (y 1) ⟨(z 0).val / 256, by omega⟩ (by simp only; omega)).trans ?_
    refine congrArg _ ?_
    funext a
    apply Fin.ext
    fin_cases a
    · rfl
    · show (y 0).val / 64 = (z 0).val / 64 % 4
      omega
    · exact h1.symm

/-- The dequantised weights after the call. -/
theorem final_weights (c : Dev nD) : (dat0 V c).arrAt 2 cfg0.N = ALLW (V c main_arg1) (V c main_v0) := by
  refine (dat0 V c).arrAt_eq_of_covers 2 _ (by decide +kernel) fun t hf y => ?_
  blk_simp
  rw [after0_2, out_weights]
  refine point_weights V c t y _ ?_ ?_
  · blk_simp [idx_val0 t]
    omega
  · blk_simp [idx_val0 t]

end Cert.KernelIdeal.Dequant
-- ==== Proof.Reference.lean ====
/- The reference, at one index. -/
module

public import proofs.«01_k».proof.Proof.Gen.ReferenceIdeal.Run
public import proofs.«01_k».proof.Proof.DequantFinal

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen
open Cert.KernelIdeal.Quant (AMAX SCL QV)

/-- The reference's activations in groups of 64. -/
def GRP (X : FVec Ideal S6x4096x6912 .bf16) : FVec Ideal S6x4096x108x64 .f32 :=
  shapeCast _ (extf .f32 X bitsLt_bf16_f32) shapeCasts_S6x4096x6912_S6x4096x108x64

/-- The reference's largest magnitudes. -/
def AM (X : FVec Ideal S6x4096x6912 .bf16) : FVec Ideal S6x4096x108 .f32 :=
  Host.reduce FloatOps.maximumf (Host.absf (GRP X)) (constant S_ .f32 0xFF800000#32) reducesTo_S6x4096x108x64_S6x4096x108_d3 h_S_

/-- The reference's scales. -/
def SC (X : FVec Ideal S6x4096x6912 .bf16) : FVec Ideal S6x4096x108 .f32 :=
  select (cmpf .oeq (AM X) (broadcastInDim S6x4096x108 ![] bcast_S_S6x4096x108 (constant S_ .f32 0x00000000#32)))
    (broadcastInDim S6x4096x108 ![] bcast_S_S6x4096x108 (constant S_ .f32 0x3F800000#32))
    (Host.divf (AM X) (broadcastInDim S6x4096x108 ![] bcast_S_S6x4096x108 (constant S_ .f32 0x40E00000#32)))

/-- The reference's quantised values. -/
def QQ (X : FVec Ideal S6x4096x6912 .bf16) : FVec Ideal S6x4096x108x64 .f32 :=
  minimumf (broadcastInDim S6x4096x108x64 ![] bcast_S_S6x4096x108x64 (id (constant S_ .f32 0x40E00000#32)))
    (maximumf (broadcastInDim S6x4096x108x64 ![] bcast_S_S6x4096x108x64 (id (constant S_ .f32 0xC1000000#32)))
      (Host.roundeven (Host.divf (GRP X)
        (broadcastInDim S6x4096x108x64 ![0, 1, 2, 3] bcast_S6x4096x108x1_S6x4096x108x64_0_1_2_3
          (broadcastInDim S6x4096x108x1 ![0, 1, 2] bcast_S6x4096x108_S6x4096x108x1_0_1_2 (SC X))))))

/-- The reference's dequantised activations. -/
def XDQ (X : FVec Ideal S6x4096x6912 .bf16) : FVec Ideal S6x4096x6912 .bf16 :=
  shapeCast _ (mulf (truncf .bf16 (QQ X) bitsLt_bf16_f32)
    (broadcastInDim S6x4096x108x64 ![0, 1, 2, 3] bcast_S6x4096x108x1_S6x4096x108x64_0_1_2_3
      (broadcastInDim S6x4096x108x1 ![0, 1, 2] bcast_S6x4096x108_S6x4096x108x1_0_1_2 (truncf .bf16 (SC X) bitsLt_bf16_f32))))
    shapeCasts_S6x4096x108x64_S6x4096x6912

/-- The reference's quantised values as integers. -/
def INTS (X : FVec Ideal S6x4096x6912 .bf16) : IVec S6x4096x6912 32 :=
  shapeCast _ (fptosi 32 (QQ X)) shapeCasts_S6x4096x108x64_S6x4096x6912

/-- The reference's codes. -/
def COD (X : FVec Ideal S6x4096x6912 .bf16) : IVec S6x4096x3456 8 :=
  trunci 8 (ori
    (andi (Host.slice S6x4096x3456 ![0, 0, 0] ![1, 1, 2] (INTS X) slicesBy_S6x4096x6912_S6x4096x3456_0s1_0s1_0s2)
      (broadcastInDim S6x4096x3456 ![] bcast_S_S6x4096x3456 (constantI S_ 32 15#32)))
    (Host.shli (andi (Host.slice S6x4096x3456 ![0, 0, 1] ![1, 1, 2] (INTS X) slicesBy_S6x4096x6912_S6x4096x3456_0s1_0s1_1s2)
        (broadcastInDim S6x4096x3456 ![] bcast_S_S6x4096x3456 (constantI S_ 32 15#32)))
      (broadcastInDim S6x4096x3456 ![] bcast_S_S6x4096x3456 (constantI S_ 32 4#32)))) natLt_8_32

/-- The reference's packed bytes as integers. -/
def BYT (P : IVec S6912x2560 8) : IVec S6912x2560 32 := extsi 32 (id P) natLt_8_32

/-- The reference's weight codes. -/
def WC (P : IVec S6912x2560 8) : IVec S6912x5120 32 :=
  shapeCast _ (concatenate S6912x2560x2 2
    [⟨S6912x2560x1, (broadcastInDim S6912x2560x1 ![0, 1] bcast_S6912x2560_S6912x2560x1_0_1
      (Host.shrsi (Host.shli (BYT P) (broadcastInDim S6912x2560 ![] bcast_S_S6912x2560 (constantI S_ 32 28#32)))
        (broadcastInDim S6912x2560 ![] bcast_S_S6912x2560 (constantI S_ 32 28#32))))⟩,
     ⟨S6912x2560x1, (broadcastInDim S6912x2560x1 ![0, 1] bcast_S6912x2560_S6912x2560x1_0_1
      (Host.shrsi (BYT P) (broadcastInDim S6912x2560 ![] bcast_S_S6912x2560 (constantI S_ 32 4#32))))⟩]
    concatenates_S6912x2560x1_S6912x2560x1_S6912x2560x2_d2) shapeCasts_S6912x2560x2_S6912x5120

/-- The reference's dequantised weights. -/
def WDQ (P : IVec S6912x2560 8) (S : FVec Ideal S108x5120 .f32) : FVec Ideal S6912x5120 .bf16 :=
  shapeCast _ (mulf (shapeCast _ (sitofp .bf16 (WC P)) shapeCasts_S6912x5120_S108x64x5120)
    (broadcastInDim S108x64x5120 ![0, 1, 2] bcast_S108x1x5120_S108x64x5120_0_1_2
      (broadcastInDim S108x1x5120 ![0, 2] bcast_S108x5120_S108x1x5120_0_2 (truncf .bf16 S bitsLt_bf16_f32))))
    shapeCasts_S108x64x5120_S6912x5120

/-- The reference's product. -/
def OUT (A : FVec Ideal S6x4096x6912 .bf16) (W : FVec Ideal S6912x5120 .bf16) (X : FVec Ideal S6x4096x6912 .bf16)
    (L1 : FVec Ideal S6912x64 .bf16) (L2 : FVec Ideal S64x5120 .bf16) : FVec Ideal S6x4096x5120 .bf16 :=
  truncf .bf16 (addf (Host.dotGeneral dot_S6x4096x6912_S6912x5120_S6x4096x5120_2_0_01_1_n_n none A W)
    (Host.dotGeneral dot_S6x4096x64_S64x5120_S6x4096x5120_2_0_01_1_n_n none
      (truncf .bf16 (Host.dotGeneral dot_S6x4096x6912_S6912x64_S6x4096x64_2_0_01_1_n_n none X L1) bitsLt_bf16_f32) L2)) bitsLt_bf16_f32

/-- The activations in groups, at one element. -/
theorem grp_at (X : FVec Ideal S6x4096x6912 .bf16) (b : Fin 6) (t : Fin 4096) (g : Fin 108) (d : Fin 64) :
    GRP X (ix4 b t g d) = X (ix3 b t ⟨64 * g.val + d.val, by omega⟩) := by
  pointwise [GRP]
  simp only [Nat.mul_comm]

/-- The largest absolute value of a group. -/
theorem am_at (X : FVec Ideal S6x4096x6912 .bf16) (b : Fin 6) (t : Fin 4096) (g : Fin 108) :
    AM X (ix3 b t g) = AMAX fun d => X (ix3 b t ⟨64 * g.val + d.val, by omega⟩) := by
  pointwise [AM]
  rw [Cert.KernelIdeal.Quant.bot_f32]
  unfold AMAX
  rw [Finset.sup]
  refine congrArg (fun f => Finset.fold max (⊥ : EReal) f Finset.univ) ?_
  funext d
  rw [grp_at]
  rfl

/-- A constant spread over the shape of the scales. -/
theorem splat3 (w : BitVec 32) (i : S6x4096x108.Idx) :
    broadcastInDim S6x4096x108 ![] bcast_S_S6x4096x108 (constant (F := Ideal) S_ .f32 w) i = Ideal.ofBits .f32 w := by
  unfold broadcastInDim constant
  exact Ideal.ofBits_def ..

/-- The choice of the scale, over any arrays that hold the constants zero, one and seven. -/
theorem sc_gen (A B C D : FVec Ideal S6x4096x108 .f32) (i : S6x4096x108.Idx) (hB : B i = (0 : EReal)) (hC : C i = (1 : EReal)) (hD : D i = (7 : EReal)) :
    select (cmpf .oeq A B) C (Host.divf A D) i = if (A i : EReal) = 0 then (1 : EReal) else Ideal.div (A i) 7 := by
  show Scalar.select (Ideal.cmp .oeq (A i) (B i)) (C i) (Ideal.div (A i) (D i)) = _
  rw [hB, hC, hD]
  generalize A i = a
  unfold Ideal.cmp
  by_cases e : a = (0 : EReal)
  · simp [e, Scalar.select]
  · simp [e, Scalar.select]

/-- The scale of a group: one if the maximum is zero, else the maximum over seven. -/
theorem sc_point (X : FVec Ideal S6x4096x6912 .bf16) (i : S6x4096x108.Idx) :
    SC X i = if (AM X i : EReal) = 0 then (1 : EReal) else Ideal.div (AM X i) 7 := by
  refine sc_gen (AM X) _ _ _ i ?_ ?_ ?_
  · rw [splat3, Ideal.ofBits_zero_f32]
  · rw [splat3, Ideal.ofBits_one_f32]
  · rw [splat3, Cert.KernelIdeal.Quant.seven_f32]

/-- A value per group spread over the group, at one element. -/
theorem spread_at {φ : FTy} (s : FVec Ideal S6x4096x108 φ) (b : Fin 6) (t : Fin 4096) (g : Fin 108) (d : Fin 64) :
    broadcastInDim S6x4096x108x64 ![0, 1, 2, 3] bcast_S6x4096x108x1_S6x4096x108x64_0_1_2_3
      (broadcastInDim S6x4096x108x1 ![0, 1, 2] bcast_S6x4096x108_S6x4096x108x1_0_1_2 s) (ix4 b t g d) = s (ix3 b t g) := by
  pointwise
/-- A constant spread over the shape of the groups. -/
theorem splat4 (w : BitVec 32) (i : S6x4096x108x64.Idx) :
    broadcastInDim S6x4096x108x64 ![] bcast_S_S6x4096x108x64 (id (constant (F := Ideal) S_ .f32 w)) i = Ideal.ofBits .f32 w := by
  unfold broadcastInDim constant id
  exact Ideal.ofBits_def ..
/-- The code of an element, as a number. -/
theorem qq_at (X : FVec Ideal S6x4096x6912 .bf16) (b : Fin 6) (t : Fin 4096) (g : Fin 108) (d : Fin 64) :
    QQ X (ix4 b t g d) = QV (GRP X (ix4 b t g d)) (SC X (ix3 b t g)) := by
  unfold QQ
  rw [minimumf_apply, maximumf_apply, Host.roundeven_apply, Host.divf_apply, spread_at, splat4, splat4,
    Cert.KernelIdeal.Quant.seven_f32, Cert.KernelIdeal.Quant.neg_eight_f32]
  rw [Ideal.minimumf_def, Ideal.maximumf_def, Ideal.hostUnary_roundeven_def, Ideal.hostDivf_def]
  unfold QV
  generalize GRP X _ = x
  generalize SC X _ = s
  rfl

/-- The reference's dequantised activations in groups. -/
def XG (X : FVec Ideal S6x4096x6912 .bf16) : FVec Ideal S6x4096x108x64 .bf16 :=
  mulf (truncf .bf16 (QQ X) bitsLt_bf16_f32)
    (broadcastInDim S6x4096x108x64 ![0, 1, 2, 3] bcast_S6x4096x108x1_S6x4096x108x64_0_1_2_3
      (broadcastInDim S6x4096x108x1 ![0, 1, 2] bcast_S6x4096x108_S6x4096x108x1_0_1_2 (truncf .bf16 (SC X) bitsLt_bf16_f32)))

/-- The dequantised activation in groups, at one element. -/
theorem xg_at (X : FVec Ideal S6x4096x6912 .bf16) (b : Fin 6) (t : Fin 4096) (g : Fin 108) (d : Fin 64) :
    XG X (ix4 b t g d) = QQ X (ix4 b t g d) * SC X (ix3 b t g) := by
  unfold XG
  rw [mulf_apply, spread_at, truncf_apply, truncf_apply, Ideal.mulf_def, Ideal.truncf_def, Ideal.truncf_def]

/-- The dequantised activation, at one element. -/
theorem xdq_at (X : FVec Ideal S6x4096x6912 .bf16) (b : Fin 6) (t : Fin 4096) (k : Fin 6912) :
    XDQ X (ix3 b t k) = QQ X (ix4 b t ⟨k.val / 64, by omega⟩ ⟨k.val % 64, by omega⟩) * SC X (ix3 b t ⟨k.val / 64, by omega⟩) := by
  rw [← xg_at]
  have e : XDQ X = shapeCast _ (XG X) shapeCasts_S6x4096x108x64_S6x4096x6912 := rfl
  rw [e]
  pointwise

/-- The byte of two codes, at one element. -/
theorem cod_at (X : FVec Ideal S6x4096x6912 .bf16) (b : Fin 6) (t : Fin 4096) (k : Fin 3456) :
    COD X (ix3 b t k) = ((INTS X (ix3 b t ⟨2 * k.val, by omega⟩) &&& 15#32)
      ||| ((INTS X (ix3 b t ⟨2 * k.val + 1, by omega⟩) &&& 15#32) <<< 4)).setWidth 8 := by
  pointwise [COD]
  simp only [Nat.add_comm 1]
  rfl

/-- The code of an element, as an integer word. -/
theorem ints_at (X : FVec Ideal S6x4096x6912 .bf16) (b : Fin 6) (t : Fin 4096) (k : Fin 6912) :
    INTS X (ix3 b t k) = Ideal.fptosi 32 (QQ X (ix4 b t ⟨k.val / 64, by omega⟩ ⟨k.val % 64, by omega⟩)) := by
  pointwise [INTS]
  generalize QQ X _ = q
  rfl

/-- The low nibble of a byte, sign-extended by two shifts. -/
theorem low_code : ∀ p : BitVec 8, (IntOp.shrsi ArithUnit.host (IntOp.shli ArithUnit.host (BitVec.signExtend 32 p) 28#32) 28#32).toInt
    = (p.extractLsb' 0 4).toInt := by decide +kernel

/-- The high nibble of a byte, sign-extended by one shift. -/
theorem high_code : ∀ p : BitVec 8, (IntOp.shrsi ArithUnit.host (BitVec.signExtend 32 p) 4#32).toInt
    = (p.extractLsb' 4 4).toInt := by decide +kernel

/-- The weight's code at one element is the nibble of its column. -/
theorem wc_at (P : IVec S6912x2560 8) (k : Fin 6912) (n : Fin 5120) :
    (WC P (ix2 k n)).toInt = Cert.KernelIdeal.Dequant.NIB (P (ix2 k ⟨n.val / 2, by omega⟩)) n.val := by
  pointwise [WC, BYT]
  unfold Cert.KernelIdeal.Dequant.NIB
  by_cases e : n.val % 2 = 0
  · rw [if_pos e, dif_pos (by omega), low_code]
    rfl
  · rw [if_neg e, dif_neg (by omega), high_code]
    rfl

/-- The dequantised weight, at one element. -/
theorem wdq_at (P : IVec S6912x2560 8) (S : FVec Ideal S108x5120 .f32) (k : Fin 6912) (n : Fin 5120) :
    WDQ P S (ix2 k n) = (((WC P (ix2 k n)).toInt : ℝ) : EReal) * S (ix2 ⟨k.val / 64, by omega⟩ n) := by
  pointwise [WDQ]
  generalize WC P _ = q
  rfl

/-- The product, at one element: the sum over the contraction and the sum over the low rank. -/
theorem out_at (A : FVec Ideal S6x4096x6912 .bf16) (W : FVec Ideal S6912x5120 .bf16) (X : FVec Ideal S6x4096x6912 .bf16)
    (L1 : FVec Ideal S6912x64 .bf16) (L2 : FVec Ideal S64x5120 .bf16) (b : Fin 6) (t : Fin 4096) (n : Fin 5120) :
    OUT A W X L1 L2 (ix3 b t n) = (∑ k : Fin 6912, (A (ix3 b t k) : EReal) * W (ix2 k n))
      + ∑ r : Fin 64, (∑ k : Fin 6912, (X (ix3 b t k) : EReal) * L1 (ix2 k r)) * L2 (ix2 r n) := by
  pointwise [OUT]

end Cert.ReferenceIdeal.Plain
-- ==== Proof.QuantBlock.lean ====
/- The blocks the quantisation body leaves. -/
module

public import proofs.«01_k».proof.Proof.QuantPair
public import proofs.«01_k».proof.Proof.Gen.KernelIdeal.Frame.Region1

@[expose] public section

set_option maxRecDepth 16384

noncomputable section

namespace Cert.KernelIdeal.Quant

open Idealize.ShloMosaic Idealize.ShloMosaic.TcCoe Idealize.SL.Sem
open Cert.KernelIdeal.Gen

/-- The index at row `r` and column `c` of a block of activations. -/
def bx (r : Fin 256) (c : Fin 6912) : S256x6912.Idx := fun
  | ⟨0, _⟩ => r
  | ⟨1, _⟩ => c

/-- An index of the block with given coordinates is the pair of them. -/
theorem bx_eq (y : S256x6912.Idx) (r : Fin 256) (c : Fin 6912) (h0 : (y 0).val = r.val) (h1 : (y 1).val = c.val) :
    y = bx r c := by
  funext a
  fin_cases a
  · exact Fin.ext h0
  · exact Fin.ext h1

/-- The scale of group `g` of row `r`. -/
def SB (x0 : Vec Ideal S256x6912 .bf16) (r : Fin 256) (g : Fin 108) : EReal :=
  SCL fun d => x0 (bx r ⟨64 * g.val + d.val, by omega⟩)

/-- The quantised value at row `r` and column `c`. -/
def QB (x0 : Vec Ideal S256x6912 .bf16) (r : Fin 256) (c : Fin 6912) : EReal :=
  QV (x0 (bx r c)) (SB x0 r ⟨c.val / 64, by omega⟩)

/-- The block of dequantised values. -/
def OUTX (x0 : Vec Ideal S256x6912 .bf16) : Vec Ideal S256x6912 .bf16 := fun y =>
  QB x0 (y 0) (y 1) * SB x0 (y 0) ⟨(y 1).val / 64, Nat.div_lt_of_lt_mul (y 1).isLt⟩

/-- The block of codes. -/
def OUTC (x0 : Vec Ideal S256x6912 .bf16) : Vec Ideal S256x3456 .i8 := fun y =>
  have h : (y 1).val < 3456 := (y 1).isLt
  (BYTE (CODE (QB x0 (y 0) ⟨2 * (y 1).val, by omega⟩)) (CODE (QB x0 (y 0) ⟨2 * (y 1).val + 1, by omega⟩))).setWidth 8

/-- The block of scales. -/
def OUTS (x0 : Vec Ideal S256x6912 .bf16) : Vec Ideal S256x108 .f32 := fun y => SB x0 (y 0) (y 1)

section Pieces

variable (arg1 : Memref sig .tc .vmem S256x6912 .bf16) (harg1 : arg1.IsWhole) (x0 : Vec Ideal S256x6912 .bf16)
  (k : Fin k1_t1_loop.trips)

/-- The loop runs eight times. -/
theorem trip_lt : k.val < 8 := Nat.lt_of_lt_of_le k.isLt k1_t1_abs.2.1

/-- Row `i` of half `r` of trip `k`. -/
def rn (r : Fin 2) (i : Fin 16) : Fin 256 := ⟨32 * k.val + 16 * r.val + i.val, by have := trip_lt k; omega⟩

/-- The vector the body loads, at one element, is the block's element. -/
theorem reg_at (r : Fin 2) (v : Fin 54) (i : Fin 16) (j : Fin 128) :
    REG arg1 (harg1.unread x0) k r v.val (ix i j) = x0 (bx (rn k r i) ⟨128 * v.val + j.val, by omega⟩) := by
  unfold REG
  rw [View.readAt_apply, harg1.read_unread]
  congr 1
  refine bx_eq _ _ _ ?_ ?_
  · simp [LoadRect.idx, OFF, k1_off1_eq k r, rn, ix]
  · simp [LoadRect.idx, OFF, ix, Nat.mod_eq_of_lt v.isLt]

/-- The scales among the lanes. -/
theorem sc_at (r : Fin 2) (i : Fin 16) (l : Fin 128) (h : l.val % 64 < 54) :
    (SC arg1 (harg1.unread x0) k r (ix i l) : EReal) = SB x0 (rn k r i) ⟨2 * (l.val % 64) + l.val / 64, by omega⟩ := by
  unfold SC SB
  rw [scale_at _ i l h]
  congr 1
  funext c
  rw [reg_at arg1 harg1 x0 k r ⟨l.val % 64, h⟩ i (half l c)]
  congr 2
  apply Fin.ext
  simp only [half]
  omega

/-- The scale in the lane a vector's element looks at is the scale of the element's group. -/
theorem sc_group (r : Fin 2) (i : Fin 16) (v : Fin 54) (j : Fin 128) :
    (SC arg1 (harg1.unread x0) k r (ix i (vlane v j)) : EReal)
      = SB x0 (rn k r i) ⟨(128 * v.val + j.val) / 64, by omega⟩ := by
  rw [sc_at arg1 harg1 x0 k r i (vlane v j) (by simp only [vlane]; omega)]
  congr 1
  apply Fin.ext
  simp only [vlane]
  omega

/-- A scale is not zero. -/
theorem sb_ne (x0 : Vec Ideal S256x6912 .bf16) (r : Fin 256) (g : Fin 108) : SB x0 r g ≠ 0 := (scl_pos _).ne'

/-- An index of a 16 by 128 vector is the pair of its two coordinates. -/
theorem ix_eta (x : S16x128.Idx) : x = ix (x 0) (x 1) := by
  funext a
  fin_cases a <;> rfl

/-- The dequantised activations the body stores, at one element named by its row and lane. -/
theorem x_value_at (r : Fin 2) (v : Fin 54) (i : Fin 16) (j : Fin 128) (y : S256x6912.Idx)
    (h0 : (y 0).val = 32 * k.val + 16 * r.val + i.val) (h1 : (y 1).val = 128 * v.val + j.val) :
    XDQ (REG arg1 (harg1.unread x0) k r v.val) (SC arg1 (harg1.unread x0) k r) v.val (ix i j) = OUTX x0 y := by
  rw [bx_eq y (rn k r i) ⟨128 * v.val + j.val, by omega⟩ h0 h1,
    xdq_at _ _ v _ _ (by rw [sc_group]; exact sb_ne _ _ _), sc_group, reg_at]
  rfl

/-- The dequantised activations the body stores, at any index of the stored tile. -/
theorem x_value (r : Fin 2) (v : Fin 54) (x : S16x128.Idx) (y : S256x6912.Idx)
    (h0 : (y 0).val = 32 * k.val + 16 * r.val + (x 0).val) (h1 : (y 1).val = 128 * v.val + (x 1).val) :
    XDQ (REG arg1 (harg1.unread x0) k r v.val) (SC arg1 (harg1.unread x0) k r) v.val x = OUTX x0 y := by
  have := x_value_at arg1 harg1 x0 k r v (x 0) (x 1) y h0 h1
  rwa [← ix_eta x] at this

/-- A stored tile of dequantised values. -/
theorem xTile_at (r : Fin 2) (v : Fin 54) (x : (xTile arg1 (harg1.unread x0) k r v.val).fst.shape.Idx) :
    (xTile arg1 (harg1.unread x0) k r v.val).snd x = OUTX x0 ((xTile arg1 (harg1.unread x0) k r v.val).fst.emb x) := by
  refine x_value arg1 harg1 x0 k r v x _ ((emb_val _ _ (off_inb k r v.val) x 0).trans ?_) ((emb_val _ _ (off_inb k r v.val) x 1).trans ?_)
  · simp [OFF, k1_off1_eq k r]
  · simp [OFF, Nat.mod_eq_of_lt v.isLt]

/-- The scales the body stores, at one element named by its row and group. -/
theorem s_value_at (r : Fin 2) (i : Fin 16) (g : Fin 108) (x : S16x108.Idx) (y : S256x108.Idx)
    (e0 : (x 0).val = i.val) (e1 : (x 1).val = g.val)
    (h0 : (y 0).val = 32 * k.val + 16 * r.val + i.val) (h1 : (y 1).val = g.val) :
    (SCALES (SC arg1 (harg1.unread x0) k r) x : EReal) = OUTS x0 y := by
  have hg := g.isLt
  have hl : (glane ⟨g.val, by omega⟩).val % 64 < 54 := by
    simp only [glane]
    rw [Nat.mul_add_mod]
    omega
  rw [scales_at _ i g x e0 e1, sc_at arg1 harg1 x0 k r _ _ hl]
  unfold OUTS
  congr 1
  · exact Fin.ext h0.symm
  · apply Fin.ext
    simp only [glane]
    omega

/-- The scales the body stores, at any index of the stored tile. -/
theorem s_value (r : Fin 2) (x : S16x108.Idx) (y : S256x108.Idx)
    (h0 : (y 0).val = 32 * k.val + 16 * r.val + (x 0).val) (h1 : (y 1).val = (x 1).val) :
    (SCALES (SC arg1 (harg1.unread x0) k r) x : EReal) = OUTS x0 y :=
  s_value_at arg1 harg1 x0 k r (x 0) (x 1) x y rfl rfl h0 h1

/-- A stored tile of scales. -/
theorem sTile_at (r : Fin 2) (x : (sTile arg1 (harg1.unread x0) k r).fst.shape.Idx) :
    (sTile arg1 (harg1.unread x0) k r).snd x = OUTS x0 ((sTile arg1 (harg1.unread x0) k r).fst.emb x) := by
  refine s_value arg1 harg1 x0 k r x _ ((emb_val _ _ (k1_off55_inb k r) x 0).trans ?_) ((emb_val _ _ (k1_off55_inb k r) x 1).trans ?_)
  · simp [k1_off55_eq k r]
  · simp [k1_off55_eq k r]

/-- The packed codes' halves. -/
theorem pk_at (r : Fin 2) (p : Fin 27) (i : Fin 8) (β : Fin 2) (j : Fin 128) :
    hw β (PK arg1 (harg1.unread x0) k r p.val (ix8 i j))
      = BYTE (CODE (QB x0 (rn k r ⟨2 * i.val + β.val, by omega⟩) ⟨2 * (128 * p.val + j.val), by omega⟩))
          (CODE (QB x0 (rn k r ⟨2 * i.val + β.val, by omega⟩) ⟨2 * (128 * p.val + j.val) + 1, by omega⟩)) := by
  have key : ∀ e : Fin 2,
      hw β ((if j.val < 64 then PACK (REG arg1 (harg1.unread x0) k r (2 * p.val)) (SC arg1 (harg1.unread x0) k r) (2 * p.val)
          else PACK (REG arg1 (harg1.unread x0) k r (2 * p.val + 1)) (SC arg1 (harg1.unread x0) k r) (2 * p.val + 1))
            (ix8 i (plane j e)))
        = CODE (QB x0 (rn k r ⟨2 * i.val + β.val, by omega⟩) ⟨2 * (128 * p.val + j.val) + e.val, by omega⟩) := by
    intro e
    have hp := p.isLt
    by_cases h : j.val < 64
    · rw [if_pos h, packed_at (REG arg1 (harg1.unread x0) k r (2 * p.val)) _ ⟨2 * p.val, by omega⟩ i _ β
        (by rw [sc_group]; exact sb_ne _ _ _), sc_group, reg_at arg1 harg1 x0 k r ⟨2 * p.val, by omega⟩]
      unfold QB
      congr 3
      · congr 1; apply Fin.ext; simp only [plane]; omega
      · apply Fin.ext; simp only [plane]; omega
    · rw [if_neg h, packed_at (REG arg1 (harg1.unread x0) k r (2 * p.val + 1)) _ ⟨2 * p.val + 1, by omega⟩ i _ β
        (by rw [sc_group]; exact sb_ne _ _ _), sc_group, reg_at arg1 harg1 x0 k r ⟨2 * p.val + 1, by omega⟩]
      unfold QB
      congr 3
      · congr 1; apply Fin.ext; simp only [plane]; omega
      · apply Fin.ext; simp only [plane]; omega
  unfold PK
  rw [pair_at, key 0, key 1]
  rfl

/-- The packed codes the body stores, at any index of the stored tile. -/
theorem c_value (p : Fin 27) (x : S32x128.Idx) (y : S256x3456.Idx)
    (e0 : (y 0).val = 32 * k.val + (x 0).val) (e1 : (y 1).val = 128 * p.val + (x 1).val) :
    k1_pay6 (PK arg1 (harg1.unread x0) k 0 p.val) (PK arg1 (harg1.unread x0) k 1 p.val) x = OUTC x0 y := by
  have h0 : (x 0).val < 32 := (x 0).isLt
  have h1 : (x 1).val < 128 := (x 1).isLt
  have hk := trip_lt k
  rw [codes_at _ _ x ⟨(x 0).val / 16, by omega⟩ ⟨(x 0).val % 16 / 2, by omega⟩ ⟨(x 0).val % 2, by omega⟩ ⟨(x 1).val, h1⟩
    (by simp only; omega) rfl]
  have e : ∀ i : Fin 8, ∀ j : Fin 128, (if (⟨(x 0).val / 16, by omega⟩ : Fin 2).val = 0 then PK arg1 (harg1.unread x0) k 0 p.val
      else PK arg1 (harg1.unread x0) k 1 p.val) (ix8 i j) = PK arg1 (harg1.unread x0) k ⟨(x 0).val / 16, by omega⟩ p.val (ix8 i j) := by
    intro i j
    rcases Nat.lt_or_ge (x 0).val 16 with h | h
    · have : (⟨(x 0).val / 16, by omega⟩ : Fin 2) = 0 := Fin.ext (by simp only [Fin.val_zero]; omega)
      rw [this]; rfl
    · have : (⟨(x 0).val / 16, by omega⟩ : Fin 2) = 1 := Fin.ext (by simp only [Fin.val_one]; omega)
      rw [this]; rfl
  rw [e, pk_at]
  unfold OUTC
  have r0 : rn k ⟨(x 0).val / 16, by omega⟩ ⟨2 * ((x 0).val % 16 / 2) + (x 0).val % 2, by omega⟩ = y 0 := by
    apply Fin.ext
    simp only [rn]
    omega
  simp only [r0, e1]

/-- A stored tile of codes. -/
theorem cTile_at (p : Fin 27) (x : (cTile arg1 (harg1.unread x0) k p.val).fst.shape.Idx) :
    (cTile arg1 (harg1.unread x0) k p.val).snd x = OUTC x0 ((cTile arg1 (harg1.unread x0) k p.val).fst.emb x) := by
  refine c_value arg1 harg1 x0 k p x _ ((emb_val _ _ (coff_inb k p.val) x 0).trans ?_) ((emb_val _ _ (coff_inb k p.val) x 1).trans ?_)
  · simp [COFF, k1_off82_eq k]
  · simp [COFF, Nat.mod_eq_of_lt p.isLt]

/-- A tile in the list of stored activation tiles is one of the 54. -/
theorem of_xTiles (r : Fin 2) (X) : ∀ (n : ℕ), n ≤ 54 → ∀ p ∈ xTiles (F := Ideal) arg1 X k r n, ∃ v : Fin 54, p = xTile arg1 X k r v.val
  | 0, _, p, hp => by simp [xTiles] at hp
  | n + 1, h, p, hp => by
    unfold xTiles at hp
    rcases List.mem_cons.1 hp with rfl | hp
    · exact ⟨⟨n, by omega⟩, rfl⟩
    · exact of_xTiles r X n (by omega) p hp

/-- A tile in the list of stored code tiles is one of the 27. -/
theorem of_cTiles (X) : ∀ (n : ℕ), n ≤ 27 → ∀ p ∈ cTiles (F := Ideal) arg1 X k n, ∃ v : Fin 27, p = cTile arg1 X k v.val
  | 0, _, p, hp => by simp [cTiles] at hp
  | n + 1, h, p, hp => by
    unfold cTiles at hp
    rcases List.mem_cons.1 hp with rfl | hp
    · exact ⟨⟨n, by omega⟩, rfl⟩
    · exact of_cTiles X n (by omega) p hp

end Pieces

section Loop

variable (𝒱 : Variants) (c : Dev nD) (bd : Option 𝒱.V) (i : grid1.Coords)
  (arg1 : Memref sig .tc .vmem S256x6912 .bf16) (harg1 : arg1.IsWhole)
  (arg2 : Memref sig .tc .vmem S6912x64 .bf16) (harg2 : arg2.IsWhole)
  (arg3 : Memref sig .tc .vmem S256x6912 .bf16) (harg3 : arg3.IsWhole)
  (arg4 : Memref sig .tc .vmem S256x3456 .i8) (harg4 : arg4.IsWhole)
  (arg5 : Memref sig .tc .vmem S256x108 .f32) (harg5 : arg5.IsWhole)
  (arg6 : Memref sig .tc .vmem S256x64 .bf16) (harg6 : arg6.IsWhole)
  (x0 : Vec Ideal S256x6912 .bf16)

/-- Every piece the loop stores holds its part of the block. -/
theorem loop_pieces : ∀ (n : ℕ), n ≤ k1_t1_loop.trips →
    (∀ p ∈ (pb_k1_t1 (F := Ideal) 𝒱 c bd i arg1 harg1 arg2 harg2 arg3 harg3 arg4 harg4 arg5 harg5 arg6 harg6 LANE (harg1.unread x0) n).1,
      ∀ x, p.snd x = OUTX x0 (p.fst.emb x))
    ∧ (∀ p ∈ (pb_k1_t1 (F := Ideal) 𝒱 c bd i arg1 harg1 arg2 harg2 arg3 harg3 arg4 harg4 arg5 harg5 arg6 harg6 LANE (harg1.unread x0) n).2.1,
      ∀ x, p.snd x = OUTC x0 (p.fst.emb x))
    ∧ (∀ p ∈ (pb_k1_t1 (F := Ideal) 𝒱 c bd i arg1 harg1 arg2 harg2 arg3 harg3 arg4 harg4 arg5 harg5 arg6 harg6 LANE (harg1.unread x0) n).2.2,
      ∀ x, p.snd x = OUTS x0 (p.fst.emb x))
  | 0, _ => by simp [pb_k1_t1]
  | n + 1, h => by
    obtain ⟨i1, i2, i3⟩ := loop_pieces n (by omega)
    rw [pb_k1_t1_succ (F := Ideal) 𝒱 c bd i arg1 harg1 arg2 harg2 arg3 harg3 arg4 harg4 arg5 harg5 arg6 harg6 LANE
      (harg1.unread x0) ⟨n, h⟩, trip_values, trip_codes, trip_scales]
    refine ⟨fun p hp => ?_, fun p hp => ?_, fun p hp => ?_⟩
    · rcases List.mem_append.1 hp with hp | hp
      · rcases List.mem_append.1 hp with hp | hp
        · obtain ⟨v, rfl⟩ := of_xTiles arg1 _ 1 _ 54 le_rfl p hp
          exact xTile_at arg1 harg1 x0 _ 1 v
        · obtain ⟨v, rfl⟩ := of_xTiles arg1 _ 0 _ 54 le_rfl p hp
          exact xTile_at arg1 harg1 x0 _ 0 v
      · exact i1 p hp
    · rcases List.mem_append.1 hp with hp | hp
      · obtain ⟨v, rfl⟩ := of_cTiles arg1 _ _ 27 le_rfl p hp
        exact cTile_at arg1 harg1 x0 _ v
      · exact i2 p hp
    · rcases List.mem_append.1 hp with hp | hp
      · rcases List.mem_cons.1 hp with rfl | hp
        · exact sTile_at arg1 harg1 x0 _ 1
        · obtain rfl := List.mem_singleton.1 hp
          exact sTile_at arg1 harg1 x0 _ 0
      · exact i3 p hp

variable (x1 : Vec Ideal S6912x64 .bf16)

/-- The block of dequantised values. -/
theorem out_values : out1_A_2 c i arg1 harg1 arg2 harg2 arg3 harg3 arg4 harg4 arg5 harg5 arg6 harg6 x0 x1 = OUTX x0 := by
  have cov := cover1_A_2 (F := Ideal) c i arg1 harg1 arg2 harg2 arg3 harg3 arg4 harg4 arg5 harg5 arg6 harg6 x0 x1
  unfold out1_A_2
  rw [View.read_writes_eq_canon _ _ _ cov]
  funext y
  exact View.canon_apply_of_pieces _ _ (loop_pieces Variants.none c none i arg1 harg1 arg2 harg2 arg3 harg3 arg4 harg4 arg5 harg5
    arg6 harg6 x0 _ le_rfl).1 y (cov y)

/-- The block of codes. -/
theorem out_codes : out1_A_3 c i arg1 harg1 arg2 harg2 arg3 harg3 arg4 harg4 arg5 harg5 arg6 harg6 x0 x1 = OUTC x0 := by
  have cov := cover1_A_3 (F := Ideal) c i arg1 harg1 arg2 harg2 arg3 harg3 arg4 harg4 arg5 harg5 arg6 harg6 x0 x1
  unfold out1_A_3
  rw [View.read_writes_eq_canon _ _ _ cov]
  funext y
  exact View.canon_apply_of_pieces _ _ (loop_pieces Variants.none c none i arg1 harg1 arg2 harg2 arg3 harg3 arg4 harg4 arg5 harg5
    arg6 harg6 x0 _ le_rfl).2.1 y (cov y)

/-- The block of scales. -/
theorem out_scales : out1_A_4 c i arg1 harg1 arg2 harg2 arg3 harg3 arg4 harg4 arg5 harg5 arg6 harg6 x0 x1 = OUTS x0 := by
  have cov := cover1_A_4 (F := Ideal) c i arg1 harg1 arg2 harg2 arg3 harg3 arg4 harg4 arg5 harg5 arg6 harg6 x0 x1
  unfold out1_A_4
  rw [View.read_writes_eq_canon _ _ _ cov]
  funext y
  exact View.canon_apply_of_pieces _ _ (loop_pieces Variants.none c none i arg1 harg1 arg2 harg2 arg3 harg3 arg4 harg4 arg5 harg5
    arg6 harg6 x0 _ le_rfl).2.2 y (cov y)

end Loop

end Cert.KernelIdeal.Quant
-- ==== Proof.QuantFinal.lean ====
/- The arrays the quantisation call leaves. -/
module

public import proofs.«01_k».proof.Proof.QuantBlock

@[expose] public section

set_option maxRecDepth 16384

noncomputable section

namespace Cert.KernelIdeal.Quant

open Idealize.ShloMosaic Idealize.ShloMosaic.TcCoe Idealize.SL.Sem
open Cert.KernelIdeal.Gen

/-- The index at row `r` and column `c` of the activations. -/
def ax (r : Fin 24576) (c : Fin 6912) : S24576x6912.Idx := fun
  | ⟨0, _⟩ => r
  | ⟨1, _⟩ => c

/-- An index of the activations with given coordinates is the pair of them. -/
theorem ax_eq (y : S24576x6912.Idx) (r : Fin 24576) (c : Fin 6912) (h0 : (y 0).val = r.val) (h1 : (y 1).val = c.val) :
    y = ax r c := by
  funext a
  fin_cases a
  · exact Fin.ext h0
  · exact Fin.ext h1

/-- The scale of group `g` of row `r`. -/
def SA (X : Vec Ideal S24576x6912 .bf16) (r : Fin 24576) (g : Fin 108) : EReal :=
  SCL fun d => X (ax r ⟨64 * g.val + d.val, by omega⟩)

/-- The quantised value at row `r` and column `c`. -/
def QA (X : Vec Ideal S24576x6912 .bf16) (r : Fin 24576) (c : Fin 6912) : EReal :=
  QV (X (ax r c)) (SA X r ⟨c.val / 64, by omega⟩)

/-- The array of dequantised values. -/
def ALLX (X : Vec Ideal S24576x6912 .bf16) : Vec Ideal S24576x6912 .bf16 := fun y =>
  QA X (y 0) (y 1) * SA X (y 0) ⟨(y 1).val / 64, Nat.div_lt_of_lt_mul (y 1).isLt⟩

/-- The array of codes. -/
def ALLC (X : Vec Ideal S24576x6912 .bf16) : Vec Ideal S24576x3456 .i8 := fun y =>
  have h : (y 1).val < 3456 := (y 1).isLt
  (BYTE (CODE (QA X (y 0) ⟨2 * (y 1).val, by omega⟩)) (CODE (QA X (y 0) ⟨2 * (y 1).val + 1, by omega⟩))).setWidth 8

/-- The array of scales. -/
def ALLS (X : Vec Ideal S24576x6912 .bf16) : Vec Ideal S24576x108 .f32 := fun y => SA X (y 0) (y 1)

/-- Every window's block index at every grid point. -/
theorem idx_val : ∀ t : Fin cfg1.N, win1_0.index t = ![t.val, 0] ∧ win1_1.index t = ![0, 0]
    ∧ win1_2.index t = ![t.val, 0] ∧ win1_3.index t = ![t.val, 0] ∧ win1_4.index t = ![t.val, 0] ∧ win1_5.index t = ![t.val, 0] :=
  (by decide +kernel : ∀ t : Fin grid1.N, _)

variable (V : (c : Dev nD) → (b : Ref sig .tc) → Buf (Elt Ideal) ((c : Thread nD τ).loc b))

/-- The block of activations at a point holds the array's rows from 256 times the point on. -/
theorem blk_at (c : Dev nD) (t : Fin cfg1.N) (r : Fin 256) (j : Fin 6912) (R : Fin 24576) (h : R.val = 256 * t.val + r.val) :
    iblk1 V c 0 t (bx r j) = V c main_v2 (ax R j) := by
  blk_point [iblk1, idx_val t]
  · simp only [bx, ax]
    omega
  · simp only [bx, ax]

/-- The scales of the block at a point are the array's. -/
theorem sb_at (c : Dev nD) (t : Fin cfg1.N) (r : Fin 256) (g : Fin 108) (R : Fin 24576) (h : R.val = 256 * t.val + r.val) :
    SB (iblk1 V c 0 t) r g = SA (V c main_v2) R g := by
  unfold SB SA
  congr 1
  funext d
  exact blk_at V c t r _ R h

/-- The codes of the block at a point are the array's, as numbers. -/
theorem qb_at (c : Dev nD) (t : Fin cfg1.N) (r : Fin 256) (j : Fin 6912) (R : Fin 24576) (h : R.val = 256 * t.val + r.val) :
    QB (iblk1 V c 0 t) r j = QA (V c main_v2) R j := by
  unfold QB QA
  rw [blk_at V c t r j R h, sb_at V c t r _ R h]

/-- The dequantised activations of the block at a point are the matching part of the array's. -/
theorem point_values (c : Dev nD) (t : Fin cfg1.N) (y : S256x6912.Idx) (z : S24576x6912.Idx)
    (h0 : (z 0).val = 256 * t.val + (y 0).val) (h1 : (z 1).val = (y 1).val) :
    OUTX (iblk1 V c 0 t) y = ALLX (V c main_v2) z := by
  unfold OUTX ALLX
  rw [qb_at V c t (y 0) (y 1) (z 0) h0, sb_at V c t (y 0) _ (z 0) h0]
  have e1 : QA (V c main_v2) (z 0) (y 1) = QA (V c main_v2) (z 0) (z 1) := congrArg _ (Fin.ext h1.symm)
  refine congrArg₂ (· * ·) e1 ?_
  simp only [h1]

/-- The packed codes of the block at a point are the matching part of the array's. -/
theorem point_codes (c : Dev nD) (t : Fin cfg1.N) (y : S256x3456.Idx) (z : S24576x3456.Idx)
    (h0 : (z 0).val = 256 * t.val + (y 0).val) (h1 : (z 1).val = (y 1).val) :
    OUTC (iblk1 V c 0 t) y = ALLC (V c main_v2) z := by
  unfold OUTC ALLC
  simp only
  rw [qb_at V c t (y 0) _ (z 0) h0, qb_at V c t (y 0) _ (z 0) h0]
  simp only [h1]

/-- The scales of the block at a point are the matching part of the array's. -/
theorem point_scales (c : Dev nD) (t : Fin cfg1.N) (y : S256x108.Idx) (z : S24576x108.Idx)
    (h0 : (z 0).val = 256 * t.val + (y 0).val) (h1 : (z 1).val = (y 1).val) :
    OUTS (iblk1 V c 0 t) y = ALLS (V c main_v2) z := by
  unfold OUTS ALLS
  exact (sb_at V c t (y 0) (y 1) (z 0) h0).trans (congrArg (SA (V c main_v2) (z 0)) (Fin.ext h1.symm))

/-- The dequantised values after the call. -/
theorem final_values (c : Dev nD) : (dat1 V c).arrAt 2 cfg1.N = ALLX (V c main_v2) := by
  refine (dat1 V c).arrAt_eq_of_covers 2 _ (by decide +kernel) fun t hf y => ?_
  blk_simp
  rw [after1_2]
  unfold outsAt1
  rw [out_values]
  refine point_values V c t y _ ?_ ?_
  · blk_simp [idx_val t]
    omega
  · blk_simp [idx_val t]

/-- The codes after the call. -/
theorem final_codes (c : Dev nD) : (dat1 V c).arrAt 3 cfg1.N = ALLC (V c main_v2) := by
  refine (dat1 V c).arrAt_eq_of_covers 3 _ (by decide +kernel) fun t hf y => ?_
  blk_simp
  rw [after1_3]
  unfold outsAt1
  rw [out_codes]
  refine point_codes V c t y _ ?_ ?_
  · blk_simp [idx_val t]
    omega
  · blk_simp [idx_val t]

/-- The scales after the call. -/
theorem final_scales (c : Dev nD) : (dat1 V c).arrAt 4 cfg1.N = ALLS (V c main_v2) := by
  refine (dat1 V c).arrAt_eq_of_covers 4 _ (by decide +kernel) fun t hf y => ?_
  blk_simp
  rw [after1_4]
  unfold outsAt1
  rw [out_scales]
  refine point_scales V c t y _ ?_ ?_
  · blk_simp [idx_val t]
    omega
  · blk_simp [idx_val t]

/-- The low-rank activation: the activations times the first factor. -/
def ALLH (X : Vec Ideal S24576x6912 .bf16) (L : Vec Ideal S6912x64 .bf16) : Vec Ideal S24576x64 .bf16 := fun y =>
  ∑ k : Fin 6912, (X (ix2 (y 0) k) : EReal) * L (ix2 k (y 1))

/-- The low-rank activation after the call. -/
theorem final_low (c : Dev nD) : (dat1 V c).arrAt 5 cfg1.N = ALLH (V c main_v2) (V c main_arg3) := by
  refine (dat1 V c).arrAt_eq_of_covers 5 _ (by decide +kernel) fun t hf y => ?_
  blk_simp
  rw [after1_5]
  unfold outsAt1
  frame_out
  pointwise [k1_pay7, ALLH]
  blk_point [iblk1, idx_val t]

end Cert.KernelIdeal.Quant
-- ==== Proof.MatmulFinal.lean ====
/- The array the call of the two products leaves. -/
module

public import proofs.«01_k».proof.Proof.Gen.KernelIdeal.Frame.Region2
public import Idealize.ShloMosaic.Lib.Pipeline.ValueKit

@[expose] public section

set_option maxRecDepth 16384

noncomputable section

namespace Cert.KernelIdeal.Product

open Idealize.ShloMosaic Idealize.ShloMosaic.TcCoe Idealize.SL.Sem
open Cert.KernelIdeal.Gen

/-- The products summed: the dequantised activations times the dequantised weight, and the low-rank activation
times the second factor. -/
def ALLY (A : Vec Ideal S24576x6912 .bf16) (H : Vec Ideal S24576x64 .bf16) (W : Vec Ideal S6912x5120 .bf16)
    (L : Vec Ideal S64x5120 .bf16) : Vec Ideal S24576x5120 .bf16 := fun y =>
  (∑ k : Fin 6912, (A (ix2 (y 0) k) : EReal) * W (ix2 k (y 1))) + ∑ k : Fin 64, (H (ix2 (y 0) k) : EReal) * L (ix2 k (y 1))

/-- Every window's block index at every grid point. -/
theorem idx_val : ∀ t : Fin cfg2.N, win2_0.index t = ![t.val / 10, 0] ∧ win2_1.index t = ![t.val / 10, 0]
    ∧ win2_2.index t = ![0, t.val % 10] ∧ win2_3.index t = ![0, t.val % 10] ∧ win2_4.index t = ![t.val / 10, t.val % 10] :=
  (by decide +kernel : ∀ t : Fin grid2.N, _)

variable (V : (c : Dev nD) → (b : Ref sig .tc) → Buf (Elt Ideal) ((c : Thread nD τ).loc b))

/-- The result array after the call. -/
theorem final (c : Dev nD) : (dat2 V c).arrAt 4 cfg2.N
    = ALLY (V c main_v3_0) (V c main_v3_3) (V c main_v1) (V c main_arg4) := by
  refine (dat2 V c).arrAt_eq_of_covers 4 _ (by decide +kernel) fun t hf y => ?_
  blk_simp
  rw [after2_4]
  frame_out
  pointwise [k2_pay1, ALLY]
  blk_point [iblk2, idx_val t]

end Cert.KernelIdeal.Product
-- ==== Proof.Bridge.lean ====
/- The kernel's values are the reference's. -/
module

public import proofs.«01_k».proof.Proof.Reference
public import proofs.«01_k».proof.Proof.QuantFinal
public import proofs.«01_k».proof.Proof.MatmulFinal

@[expose] public section

set_option maxRecDepth 16384

noncomputable section

namespace Cert.Bridge

open Idealize.ShloMosaic Idealize.ShloMosaic.TcCoe Idealize.SL.Sem
open Cert.ReferenceIdeal.Plain
open Cert.KernelIdeal Cert.KernelIdeal.Dequant Cert.KernelIdeal.Product
open Cert.KernelIdeal.Quant (AMAX SCL QV SA QA ALLX ALLC ALLS ALLH ax ax_eq qv_code code_at byte_code)

/-- The row of token `t` of sequence `b` in the activations as one matrix. -/
def row (b : Fin 6) (t : Fin 4096) : Fin 24576 := ⟨b.val * 4096 + t.val, by omega⟩

/-- The activations as one matrix. -/
def FLAT (X : FVec Ideal S6x4096x6912 .bf16) : FVec Ideal S24576x6912 .bf16 :=
  shapeCast _ X Cert.KernelIdeal.Gen.shapeCasts_S6x4096x6912_S24576x6912

/-- The matrix of activations at the row of a token is the activation of that token. -/
theorem flat_at (X : FVec Ideal S6x4096x6912 .bf16) (b : Fin 6) (t : Fin 4096) (k : Fin 6912) :
    FLAT X (ix2 (row b t) k) = X (ix3 b t k) := by
  pointwise [FLAT]
  refine congrArg X ?_
  have ht := t.isLt
  refine (ix3_inj ..).2 ⟨Fin.ext ?_, Fin.ext ?_, rfl⟩ <;> simp only [row] <;> omega

/-- The same, with the index written as the quantisation call writes it. -/
theorem flat_ax (X : FVec Ideal S6x4096x6912 .bf16) (b : Fin 6) (t : Fin 4096) (k : Fin 6912) :
    FLAT X (ax (row b t) k) = X (ix3 b t k) :=
  (congrArg (FLAT X) (ax_eq (ix2 (row b t) k) _ _ rfl rfl).symm).trans (flat_at X b t k)

/-- The kernel's scale of a group is the reference's scale. -/
theorem sa_at (X : FVec Ideal S6x4096x6912 .bf16) (b : Fin 6) (t : Fin 4096) (g : Fin 108) :
    SA (FLAT X) (row b t) g = SC X (ix3 b t g) := by
  unfold SA
  rw [sc_point, am_at]
  simp only [flat_ax]
  unfold SCL
  rfl

/-- The kernel's code of an element, as a number, from the element and the reference's scale. -/
theorem qa_at (X : FVec Ideal S6x4096x6912 .bf16) (b : Fin 6) (t : Fin 4096) (k : Fin 6912) :
    QA (FLAT X) (row b t) k = QV (X (ix3 b t k)) (SC X (ix3 b t ⟨k.val / 64, by omega⟩)) := by
  unfold QA
  rw [sa_at, flat_ax]

/-- The reference's code of an element is the kernel's, as numbers. -/
theorem qq_flat (X : FVec Ideal S6x4096x6912 .bf16) (b : Fin 6) (t : Fin 4096) (k : Fin 6912) :
    QQ X (ix4 b t ⟨k.val / 64, by omega⟩ ⟨k.val % 64, by omega⟩) = QA (FLAT X) (row b t) k := by
  rw [qq_at, qa_at, grp_at]
  congr 2
  refine congrArg _ (Fin.ext ?_)
  simp only
  omega

/-- The kernel's dequantised activation is the reference's, at one element. -/
theorem allx_at (X : FVec Ideal S6x4096x6912 .bf16) (b : Fin 6) (t : Fin 4096) (k : Fin 6912) :
    (ALLX (FLAT X) (ix2 (row b t) k) : EReal) = XDQ X (ix3 b t k) := by
  rw [xdq_at, qq_flat, ← sa_at]
  rfl

/-- The reference's code as an integer word, when its value is the integer `n - 8`. -/
theorem ints_flat (X : FVec Ideal S6x4096x6912 .bf16) (b : Fin 6) (t : Fin 4096) (k : Fin 6912) (n : Fin 16)
    (h : QA (FLAT X) (row b t) k = (((n.val : ℤ) - 8 : ℤ) : ℝ)) : INTS X (ix3 b t k) = BitVec.ofInt 32 ((n.val : ℤ) - 8) := by
  rw [ints_at, qq_flat, h]
  unfold Ideal.fptosi
  rw [Ideal.toIntClamped_coe]
  have hn := n.isLt
  split_ifs
  · rw [Int.floor_intCast]
    congr 1
    push_cast
    omega
  · rw [Int.ceil_intCast]
    congr 1
    push_cast
    omega

/-- The kernel's byte of two codes is the reference's, at one element. -/
theorem allc_at (X : FVec Ideal S6x4096x6912 .bf16) (b : Fin 6) (t : Fin 4096) (k : Fin 3456) :
    (ALLC (FLAT X) (ix2 (row b t) k) : BitVec 8) = COD X (ix3 b t k) := by
  obtain ⟨m, hm⟩ := qv_code (X (ix3 b t ⟨2 * k.val, by omega⟩)) (SC X (ix3 b t ⟨(2 * k.val) / 64, by omega⟩))
  obtain ⟨n, hn⟩ := qv_code (X (ix3 b t ⟨2 * k.val + 1, by omega⟩)) (SC X (ix3 b t ⟨(2 * k.val + 1) / 64, by omega⟩))
  have em := (qa_at X b t ⟨2 * k.val, by omega⟩).trans hm
  have en := (qa_at X b t ⟨2 * k.val + 1, by omega⟩).trans hn
  rw [cod_at, ints_flat X b t _ m em, ints_flat X b t _ n en, ← byte_code, ← code_at, ← code_at, ← em, ← en]
  rfl

/-- The kernel's dequantised weight is the reference's, at one element. -/
theorem allw_at (P : IVec S6912x2560 8) (S : FVec Ideal S108x5120 .f32) (k : Fin 6912) (n : Fin 5120) :
    (ALLW P (shapeCast _ S Cert.KernelIdeal.Gen.shapeCasts_S108x5120_S27x4x5120) (ix2 k n) : EReal) = WDQ P S (ix2 k n) := by
  rw [wdq_at, wc_at]
  unfold ALLW
  simp only
  refine congrArg₂ (· * ·) rfl ?_
  pointwise
  refine congrArg S ((ix2_inj ..).2 ⟨Fin.ext ?_, rfl⟩)
  simp only
  omega

/-- The kernel's scale, in the shape of the result, is the reference's, at one element. -/
theorem scales_at (X : FVec Ideal S6x4096x6912 .bf16) (b : Fin 6) (t : Fin 4096) (g : Fin 108) :
    shapeCast S6x4096x108 (ALLS (FLAT X)) Cert.KernelIdeal.Gen.shapeCasts_S24576x108_S6x4096x108 (ix3 b t g) = SC X (ix3 b t g) := by
  rw [← sa_at]
  pointwise
  rfl

/-- The kernel's scales are the reference's. -/
theorem scales_eq (X : FVec Ideal S6x4096x6912 .bf16) :
    shapeCast S6x4096x108 (ALLS (FLAT X)) Cert.KernelIdeal.Gen.shapeCasts_S24576x108_S6x4096x108 = SC X := by
  funext y
  exact (congrArg _ (eq_ix3 y)).trans ((scales_at X (y 0) (y 1) (y 2)).trans (congrArg _ (eq_ix3 y).symm))

/-- The kernel's byte of two codes, in the shape of the result, is the reference's, at one element. -/
theorem codes_at (X : FVec Ideal S6x4096x6912 .bf16) (b : Fin 6) (t : Fin 4096) (k : Fin 3456) :
    shapeCast S6x4096x3456 (ALLC (FLAT X)) Cert.KernelIdeal.Gen.shapeCasts_S24576x3456_S6x4096x3456 (ix3 b t k) = COD X (ix3 b t k) := by
  rw [← allc_at]
  pointwise
  rfl

/-- The kernel's codes are the reference's. -/
theorem codes_eq (X : FVec Ideal S6x4096x6912 .bf16) :
    shapeCast S6x4096x3456 (ALLC (FLAT X)) Cert.KernelIdeal.Gen.shapeCasts_S24576x3456_S6x4096x3456 = COD X := by
  funext y
  exact (congrArg _ (eq_ix3 y)).trans ((codes_at X (y 0) (y 1) (y 2)).trans (congrArg _ (eq_ix3 y).symm))

/-- The kernel's product, in the shape of the result, is the reference's, at one element. -/
theorem product_at (X : FVec Ideal S6x4096x6912 .bf16) (P : IVec S6912x2560 8) (S : FVec Ideal S108x5120 .f32)
    (L1 : FVec Ideal S6912x64 .bf16) (L2 : FVec Ideal S64x5120 .bf16) (b : Fin 6) (t : Fin 4096) (n : Fin 5120) :
    shapeCast S6x4096x5120 (ALLY (ALLX (FLAT X)) (ALLH (FLAT X) L1)
      (ALLW P (shapeCast _ S Cert.KernelIdeal.Gen.shapeCasts_S108x5120_S27x4x5120)) L2) Cert.KernelIdeal.Gen.shapeCasts_S24576x5120_S6x4096x5120 (ix3 b t n) = OUT (XDQ X) (WDQ P S) X L1 L2 (ix3 b t n) := by
  rw [out_at]
  simp only [← allx_at, ← allw_at]
  simp only [← flat_at]
  pointwise
  rfl

/-- The kernel's product is the reference's. -/
theorem product_eq (X : FVec Ideal S6x4096x6912 .bf16) (P : IVec S6912x2560 8) (S : FVec Ideal S108x5120 .f32)
    (L1 : FVec Ideal S6912x64 .bf16) (L2 : FVec Ideal S64x5120 .bf16) :
    shapeCast S6x4096x5120 (ALLY (ALLX (FLAT X)) (ALLH (FLAT X) L1)
      (ALLW P (shapeCast _ S Cert.KernelIdeal.Gen.shapeCasts_S108x5120_S27x4x5120)) L2) Cert.KernelIdeal.Gen.shapeCasts_S24576x5120_S6x4096x5120 = OUT (XDQ X) (WDQ P S) X L1 L2 := by
  funext y
  exact (congrArg _ (eq_ix3 y)).trans ((product_at X P S L1 L2 (y 0) (y 1) (y 2)).trans (congrArg _ (eq_ix3 y).symm))

end Cert.Bridge
-- ==== Proof.RunValue.lean ====
/- The three results of the whole run. -/
module

public import proofs.«01_k».proof.Proof.KernelIdealRun.Frame
public import proofs.«01_k».proof.Proof.Bridge

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Quant (ALLX ALLC ALLS ALLH final_values final_codes final_scales final_low)
open Cert.KernelIdeal.Dequant (ALLW final_weights)
open Cert.KernelIdeal.Product (ALLY final)
open Cert.Bridge (FLAT)

local notation "𝕄" => MT nD τ sig Unit (Elt Ideal) ℕ (UR sig nD τ) ℕ

variable (m : (ℓ : Loc nD τ sig) → Buf (Elt Ideal) ℓ) (ρ : Dev nD → PrngReg)

/-- The weight scales as the first call reads them. -/
theorem W1_scales (c : Dev nD) : V1 m ρ c main_v0 = shapeCast S27x4x5120 (m ((c : Thread nD τ).loc main_arg2)) shapeCasts_S108x5120_S27x4x5120 := by
  show StableHlo.after hostOps0 (W0 m ρ c) (Proc.devRef .tc main_v0) = _
  after_results
  rfl

/-- The activations as the second call reads them. -/
theorem W3_flat (c : Dev nD) : V3 m ρ c main_v2 = FLAT (m ((c : Thread nD τ).loc main_arg0)) := by
  show StableHlo.after hostOps1 (W2 m ρ c) (Proc.devRef .tc main_v2) = _
  have e : StableHlo.after hostOps1 (W2 m ρ c) (Proc.devRef .tc main_v2)
      = shapeCast S24576x6912 (W2 m ρ c (Proc.devRef .tc main_arg0)) shapeCasts_S6x4096x6912_S24576x6912 := by
    after_results
    rfl
  exact e.trans (congrArg FLAT (W2_args m ρ c main_arg0 (by decide)))

/-- The weights the matrix product reads. -/
theorem V4_weights (c : Dev nD) : V4 m ρ c main_v1 = ALLW (m ((c : Thread nD τ).loc main_arg1))
    (shapeCast S27x4x5120 (m ((c : Thread nD τ).loc main_arg2)) shapeCasts_S108x5120_S27x4x5120) := by
  have e := W2_arr m ρ c 2
  rw [final_weights] at e
  refine (W4_of m ρ c main_v1 (by decide)).trans ((W3_of m ρ c main_v1 (by decide)).trans (e.trans ?_))
  rw [W1_scales]
  exact congrArg (fun P => ALLW P _) (W1_args m ρ c main_arg1 (by decide))

/-- The dequantised activations after the quantisation call. -/
theorem V4_values (c : Dev nD) : V4 m ρ c main_v3_0 = ALLX (FLAT (m ((c : Thread nD τ).loc main_arg0))) := by
  have e := W4_arr m ρ c 2
  rw [final_values, W3_flat] at e
  exact e

/-- The packed codes after the quantisation call. -/
theorem V4_codes (c : Dev nD) : V4 m ρ c main_v3_1 = ALLC (FLAT (m ((c : Thread nD τ).loc main_arg0))) := by
  have e := W4_arr m ρ c 3
  rw [final_codes, W3_flat] at e
  exact e

/-- The scales after the quantisation call. -/
theorem V4_scales (c : Dev nD) : V4 m ρ c main_v3_2 = ALLS (FLAT (m ((c : Thread nD τ).loc main_arg0))) := by
  have e := W4_arr m ρ c 4
  rw [final_scales, W3_flat] at e
  exact e

/-- The low-rank activation after the quantisation call. -/
theorem V4_low (c : Dev nD) : V4 m ρ c main_v3_3 = ALLH (FLAT (m ((c : Thread nD τ).loc main_arg0))) (m ((c : Thread nD τ).loc main_arg3)) := by
  have e := W4_arr m ρ c 5
  rw [final_low, W3_flat] at e
  exact e.trans (congrArg (ALLH _) (W3_args m ρ c main_arg3 (by decide)))

/-- The product after the last call, over the arrays of the earlier calls. -/
theorem W5_product (c : Dev nD) : W5 m ρ c main_v4 = ALLY (ALLX (FLAT (m ((c : Thread nD τ).loc main_arg0))))
    (ALLH (FLAT (m ((c : Thread nD τ).loc main_arg0))) (m ((c : Thread nD τ).loc main_arg3)))
    (ALLW (m ((c : Thread nD τ).loc main_arg1))
      (shapeCast S27x4x5120 (m ((c : Thread nD τ).loc main_arg2)) shapeCasts_S108x5120_S27x4x5120))
    (m ((c : Thread nD τ).loc main_arg4)) := by
  have e := W5_arr m ρ c 4
  rw [final, V4_values, V4_low, V4_weights] at e
  exact e.trans (congrArg (ALLY _ _ _) (W4_args m ρ c main_arg4 (by decide)))

/-- The first result. -/
theorem W6_product (c : Dev nD) : W6 m ρ c (Proc.devRef .tc main_v5)
    = Cert.ReferenceIdeal.Plain.OUT (Cert.ReferenceIdeal.Plain.XDQ (m ((c : Thread nD τ).loc main_arg0)))
        (Cert.ReferenceIdeal.Plain.WDQ (m ((c : Thread nD τ).loc main_arg1)) (m ((c : Thread nD τ).loc main_arg2)))
        (m ((c : Thread nD τ).loc main_arg0)) (m ((c : Thread nD τ).loc main_arg3)) (m ((c : Thread nD τ).loc main_arg4)) := by
  have e : StableHlo.after hostOps3 (W5 m ρ c) (Proc.devRef .tc main_v5)
      = shapeCast S6x4096x5120 (W5 m ρ c (Proc.devRef .tc main_v4)) shapeCasts_S24576x5120_S6x4096x5120 := by
    after_results
    rfl
  rw [W5_product] at e
  exact e.trans (Cert.Bridge.product_eq _ _ _ _ _)

/-- The second result. -/
theorem W6_codes (c : Dev nD) : W6 m ρ c (Proc.devRef .tc main_v6)
    = Cert.ReferenceIdeal.Plain.COD (m ((c : Thread nD τ).loc main_arg0)) := by
  have e : StableHlo.after hostOps3 (W5 m ρ c) (Proc.devRef .tc main_v6)
      = shapeCast S6x4096x3456 (W5 m ρ c (Proc.devRef .tc main_v3_1)) shapeCasts_S24576x3456_S6x4096x3456 := by
    after_results
    rfl
  rw [(W5_of m ρ c main_v3_1 (by decide)).trans (V4_codes m ρ c)] at e
  exact e.trans (Cert.Bridge.codes_eq _)

/-- The third result. -/
theorem W6_scales (c : Dev nD) : W6 m ρ c (Proc.devRef .tc main_v7)
    = Cert.ReferenceIdeal.Plain.SC (m ((c : Thread nD τ).loc main_arg0)) := by
  have e : StableHlo.after hostOps3 (W5 m ρ c) (Proc.devRef .tc main_v7)
      = shapeCast S6x4096x108 (W5 m ρ c (Proc.devRef .tc main_v3_2)) shapeCasts_S24576x108_S6x4096x108 := by
    after_results
    rfl
  rw [(W5_of m ρ c main_v3_2 (by decide)).trans (V4_scales m ρ c)] at e
  exact e.trans (Cert.Bridge.scales_eq _)

set_option backward.isDefEq.respectTransparency.types false in
/-- Every run ends with the results at the reference's terms of the arguments, and the arguments unchanged. -/
theorem run_values : θ_run defs (onTc (τ := τ) (main (F := Ideal))) ⟨m, fun _ => 0, ρ⟩ (fun r => ∀ c : Dev nD,
      r.2.mem ((c.tc : Thread nD τ).loc main_v5) = Cert.ReferenceIdeal.Plain.OUT (Cert.ReferenceIdeal.Plain.XDQ (m ((c : Thread nD τ).loc main_arg0)))
        (Cert.ReferenceIdeal.Plain.WDQ (m ((c : Thread nD τ).loc main_arg1)) (m ((c : Thread nD τ).loc main_arg2)))
        (m ((c : Thread nD τ).loc main_arg0)) (m ((c : Thread nD τ).loc main_arg3)) (m ((c : Thread nD τ).loc main_arg4))
      ∧ r.2.mem ((c.tc : Thread nD τ).loc main_v6) = Cert.ReferenceIdeal.Plain.COD (m ((c : Thread nD τ).loc main_arg0))
      ∧ r.2.mem ((c.tc : Thread nD τ).loc main_v7) = Cert.ReferenceIdeal.Plain.SC (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v5 (by decide))).trans (W6_product m ρ c),
       (h c _ (mem_uc main_v6 (by decide))).trans (W6_codes m ρ c),
       (h c _ (mem_uc main_v7 (by decide))).trans (W6_scales m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Gen
-- ==== Proof.lean ====
module

public import proofs.«01_k».proof.Defs
public import proofs.«01_k».proof.Proof.KernelRun.Frame
public import proofs.«01_k».proof.Proof.KernelIdealRun.Frame
public import proofs.«01_k».proof.Proof.Gen.ReferenceIdeal
public import proofs.«01_k».proof.Proof.Gen.ReferenceIdeal.Run
public import proofs.«01_k».proof.Proof.RunValue
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The reference runs, its arguments unchanged, every semaphore counter at zero at the end. -/
theorem frame_reference : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel's three results are the reference's, element by element. -/
theorem algebraic : Cert.algebraic_KernelIdeal_ReferenceIdeal := by
  intro m g m' g' _ h
  refine ⟨_, _, _, Cert.KernelIdeal.Gen.run_values m g, ?_⟩
  refine (θ_run Cert.ReferenceIdeal.defs _ _).mono (fun r k c => ?_) (Cert.ReferenceIdeal.Value.run (F := Ideal) m' g')
  obtain ⟨h0, h1, h2, h3, h4⟩ := h c
  refine ⟨(k c).1.trans ?_, (k c).2.1.trans ?_, (k c).2.2.1.trans ?_, (k c).2.2.2⟩
  · rw [h0, h1, h2, h3, h4]
    rfl
  · rw [h0]
    rfl
  · rw [h0]
    rfl

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
